-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_PolarIdeal (m : (ℓ : Loc Cert.PolarIdeal.nD Cert.PolarIdeal.τ Cert.PolarIdeal.sig) → Buf (Elt Ideal) ℓ) : Prop :=
  True

def Pre_PolarIdeal_finite [hPre_finite : Cert.Pre_finite.Facts] (m : (ℓ : Loc Cert.PolarIdeal.nD Cert.PolarIdeal.τ Cert.PolarIdeal.sig) → Buf (Elt Ideal) ℓ) : Prop :=
  ∀ c : Dev Cert.PolarIdeal.nD,
    (Cert.Pre_finite.fn (F := Ideal) (m ((c.tc : Thread Cert.PolarIdeal.nD Cert.PolarIdeal.τ).loc Cert.PolarIdeal.main_arg0)) (m ((c.tc : Thread Cert.PolarIdeal.nD Cert.PolarIdeal.τ).loc Cert.PolarIdeal.main_arg1)) (m ((c.tc : Thread Cert.PolarIdeal.nD Cert.PolarIdeal.τ).loc Cert.PolarIdeal.main_arg2)) (m ((c.tc : Thread Cert.PolarIdeal.nD Cert.PolarIdeal.τ).loc Cert.PolarIdeal.main_arg3))).1 = (fun _ => 1#1)
    ∧ (Cert.Pre_finite.fn (F := Ideal) (m ((c.tc : Thread Cert.PolarIdeal.nD Cert.PolarIdeal.τ).loc Cert.PolarIdeal.main_arg0)) (m ((c.tc : Thread Cert.PolarIdeal.nD Cert.PolarIdeal.τ).loc Cert.PolarIdeal.main_arg1)) (m ((c.tc : Thread Cert.PolarIdeal.nD Cert.PolarIdeal.τ).loc Cert.PolarIdeal.main_arg2)) (m ((c.tc : Thread Cert.PolarIdeal.nD Cert.PolarIdeal.τ).loc Cert.PolarIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_PolarIdeal [hPolarIdeal : Cert.PolarIdeal.Facts] : Prop :=
  ∀ (m : (ℓ : Loc Cert.PolarIdeal.nD Cert.PolarIdeal.τ Cert.PolarIdeal.sig) → Buf (Elt Ideal) ℓ) (g : Dev Cert.PolarIdeal.nD → PrngReg), Pre_PolarIdeal m →
    θ_run (Cert.PolarIdeal.defs (F := Ideal)) (onTc (τ := Cert.PolarIdeal.τ) (Cert.PolarIdeal.main (F := Ideal))) ⟨m, fun _ => 0, g⟩ (fun r => (∀ c : Dev Cert.PolarIdeal.nD,
      r.2.mem ((c.tc : Thread Cert.PolarIdeal.nD Cert.PolarIdeal.τ).loc Cert.PolarIdeal.main_arg0) = m ((c.tc : Thread Cert.PolarIdeal.nD Cert.PolarIdeal.τ).loc Cert.PolarIdeal.main_arg0)
      ∧ r.2.mem ((c.tc : Thread Cert.PolarIdeal.nD Cert.PolarIdeal.τ).loc Cert.PolarIdeal.main_arg1) = m ((c.tc : Thread Cert.PolarIdeal.nD Cert.PolarIdeal.τ).loc Cert.PolarIdeal.main_arg1)
      ∧ r.2.mem ((c.tc : Thread Cert.PolarIdeal.nD Cert.PolarIdeal.τ).loc Cert.PolarIdeal.main_arg2) = m ((c.tc : Thread Cert.PolarIdeal.nD Cert.PolarIdeal.τ).loc Cert.PolarIdeal.main_arg2)
      ∧ r.2.mem ((c.tc : Thread Cert.PolarIdeal.nD Cert.PolarIdeal.τ).loc Cert.PolarIdeal.main_arg3) = m ((c.tc : Thread Cert.PolarIdeal.nD Cert.PolarIdeal.τ).loc Cert.PolarIdeal.main_arg3))
      ∧ r.2.sem = fun _ => 0)

def quiescent_PolarIdeal_pre_finite [hPolarIdeal : Cert.PolarIdeal.Facts] [hPre_finite : Cert.Pre_finite.Facts] : Prop :=
  ∀ (m : (ℓ : Loc Cert.PolarIdeal.nD Cert.PolarIdeal.τ Cert.PolarIdeal.sig) → Buf (Elt Ideal) ℓ) (g : Dev Cert.PolarIdeal.nD → PrngReg), Pre_PolarIdeal_finite m →
    θ_run (Cert.PolarIdeal.defs (F := Ideal)) (onTc (τ := Cert.PolarIdeal.τ) (Cert.PolarIdeal.main (F := Ideal))) ⟨m, fun _ => 0, g⟩ (fun r => (∀ c : Dev Cert.PolarIdeal.nD,
      r.2.mem ((c.tc : Thread Cert.PolarIdeal.nD Cert.PolarIdeal.τ).loc Cert.PolarIdeal.main_arg0) = m ((c.tc : Thread Cert.PolarIdeal.nD Cert.PolarIdeal.τ).loc Cert.PolarIdeal.main_arg0)
      ∧ r.2.mem ((c.tc : Thread Cert.PolarIdeal.nD Cert.PolarIdeal.τ).loc Cert.PolarIdeal.main_arg1) = m ((c.tc : Thread Cert.PolarIdeal.nD Cert.PolarIdeal.τ).loc Cert.PolarIdeal.main_arg1)
      ∧ r.2.mem ((c.tc : Thread Cert.PolarIdeal.nD Cert.PolarIdeal.τ).loc Cert.PolarIdeal.main_arg2) = m ((c.tc : Thread Cert.PolarIdeal.nD Cert.PolarIdeal.τ).loc Cert.PolarIdeal.main_arg2)
      ∧ r.2.mem ((c.tc : Thread Cert.PolarIdeal.nD Cert.PolarIdeal.τ).loc Cert.PolarIdeal.main_arg3) = m ((c.tc : Thread Cert.PolarIdeal.nD Cert.PolarIdeal.τ).loc Cert.PolarIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_PolarIdeal_pre_finite [hKernelIdeal : Cert.KernelIdeal.Facts] [hPolarIdeal : Cert.PolarIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PolarIdeal.nD Cert.PolarIdeal.τ Cert.PolarIdeal.sig) → Buf (Elt Ideal) ℓ) (g' : Dev Cert.PolarIdeal.nD → PrngReg), Pre_KernelIdeal_finite m →
    (∀ c : Dev Cert.KernelIdeal.nD,
      m' ((c.tc : Thread Cert.PolarIdeal.nD Cert.PolarIdeal.τ).loc Cert.PolarIdeal.main_arg0) = m ((c.tc : Thread Cert.KernelIdeal.nD Cert.KernelIdeal.τ).loc Cert.KernelIdeal.main_arg0)
      ∧ m' ((c.tc : Thread Cert.PolarIdeal.nD Cert.PolarIdeal.τ).loc Cert.PolarIdeal.main_arg1) = m ((c.tc : Thread Cert.KernelIdeal.nD Cert.KernelIdeal.τ).loc Cert.KernelIdeal.main_arg1)
      ∧ m' ((c.tc : Thread Cert.PolarIdeal.nD Cert.PolarIdeal.τ).loc Cert.PolarIdeal.main_arg2) = m ((c.tc : Thread Cert.KernelIdeal.nD Cert.KernelIdeal.τ).loc Cert.KernelIdeal.main_arg2)
      ∧ m' ((c.tc : Thread Cert.PolarIdeal.nD Cert.PolarIdeal.τ).loc Cert.PolarIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.PolarIdeal.defs (F := Ideal)) (onTc (τ := Cert.PolarIdeal.τ) (Cert.PolarIdeal.main (F := Ideal))) ⟨m', fun _ => 0, g'⟩ (fun r => ∀ c : Dev Cert.PolarIdeal.nD,
          r.2.mem ((c.tc : Thread Cert.PolarIdeal.nD Cert.PolarIdeal.τ).loc Cert.PolarIdeal.main_v123) = v0 c
          ∧ r.2.mem ((c.tc : Thread Cert.PolarIdeal.nD Cert.PolarIdeal.τ).loc Cert.PolarIdeal.main_arg0) = m' ((c.tc : Thread Cert.PolarIdeal.nD Cert.PolarIdeal.τ).loc Cert.PolarIdeal.main_arg0)
          ∧ r.2.mem ((c.tc : Thread Cert.PolarIdeal.nD Cert.PolarIdeal.τ).loc Cert.PolarIdeal.main_arg1) = m' ((c.tc : Thread Cert.PolarIdeal.nD Cert.PolarIdeal.τ).loc Cert.PolarIdeal.main_arg1)
          ∧ r.2.mem ((c.tc : Thread Cert.PolarIdeal.nD Cert.PolarIdeal.τ).loc Cert.PolarIdeal.main_arg2) = m' ((c.tc : Thread Cert.PolarIdeal.nD Cert.PolarIdeal.τ).loc Cert.PolarIdeal.main_arg2)
          ∧ r.2.mem ((c.tc : Thread Cert.PolarIdeal.nD Cert.PolarIdeal.τ).loc Cert.PolarIdeal.main_arg3) = m' ((c.tc : Thread Cert.PolarIdeal.nD Cert.PolarIdeal.τ).loc Cert.PolarIdeal.main_arg3))

def Claim : Prop :=
  ∃ (hKernel : Cert.Kernel.Facts) (hKernelIdeal : Cert.KernelIdeal.Facts) (hReferenceIdeal : Cert.ReferenceIdeal.Facts) (hPolarIdeal : Cert.PolarIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_PolarIdeal (hPolarIdeal := hPolarIdeal)
    ∧ quiescent_PolarIdeal_pre_finite (hPolarIdeal := hPolarIdeal) (hPre_finite := hPre_finite)
    ∧ preserves_Kernel_KernelIdeal
    ∧ algebraic_KernelIdeal_ReferenceIdeal (hKernelIdeal := hKernelIdeal) (hReferenceIdeal := hReferenceIdeal)
    ∧ algebraic_KernelIdeal_PolarIdeal_pre_finite (hKernelIdeal := hKernelIdeal) (hPolarIdeal := hPolarIdeal) (hPre_finite := hPre_finite)
-- ==== Pre_finite.lean ====
abbrev S8x256x128x128 : Shape := ⟨4, ![8, 256, 128, 128]⟩
abbrev S16x256 : Shape := ⟨2, ![16, 256]⟩
abbrev S256x16 : Shape := ⟨2, ![256, 16]⟩
abbrev S16x8x9 : Shape := ⟨3, ![16, 8, 9]⟩
abbrev S_ : Shape := ⟨0, ![]⟩

class Facts : Prop where
  bcast_S_S8x256x128x128 : S_.BroadcastsInDim S8x256x128x128 (![] : Fin 0 → Fin S8x256x128x128.rank)
  bcast_S_S16x256 : S_.BroadcastsInDim S16x256 (![] : Fin 0 → Fin S16x256.rank)

variable [Facts]

def fn {F : FTy → Type} [FloatOps F] (main_arg0 : FVec F S8x256x128x128 .f32) (main_arg1 : FVec F S16x256 .f32) (main_arg2 : FVec F S256x16 .f32) (main_arg3 : FVec F S16x8x9 .f32) : IVec S8x256x128x128 1 × IVec S16x256 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_v3 : FVec F S16x256 .f32 := Host.absf main_arg1
  let main_cst_0 : FVec F S_ .f32 := constant S_ .f32 0x7F800000#32
  let main_v4 : FVec F S16x256 .f32 := broadcastInDim S16x256 ![] bcast_S_S16x256 main_cst_0
  let main_v5 : IVec S16x256 1 := cmpf .olt main_v3 main_v4
  (main_v2, main_v5)
-- ==== Kernel.lean ====
abbrev S8x256x128x128 : Shape := ⟨4, ![8, 256, 128, 128]⟩
abbrev S16x256 : Shape := ⟨2, ![16, 256]⟩
abbrev S256x16 : Shape := ⟨2, ![256, 16]⟩
abbrev S16x8x9 : Shape := ⟨3, ![16, 8, 9]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x128 : Shape := ⟨2, ![64, 128]⟩
abbrev S16 : Shape := ⟨1, ![16]⟩
abbrev S1x16 : Shape := ⟨2, ![1, 16]⟩
abbrev S128x16 : Shape := ⟨2, ![128, 16]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x128 : Shape := ⟨2, ![1024, 128]⟩
abbrev S16x128 : Shape := ⟨2, ![16, 128]⟩
abbrev S8 : Shape := ⟨1, ![8]⟩
abbrev S8x1x1 : Shape := ⟨3, ![8, 1, 1]⟩
abbrev S1x128x128 : Shape := ⟨3, ![1, 128, 128]⟩
abbrev S8x128x128 : Shape := ⟨3, ![8, 128, 128]⟩
abbrev S9 : Shape := ⟨1, ![9]⟩
abbrev S9x1x1 : Shape := ⟨3, ![9, 1, 1]⟩
abbrev S9x128x128 : Shape := ⟨3, ![9, 128, 128]⟩
abbrev S8x1x128x128 : Shape := ⟨4, ![8, 1, 128, 128]⟩
abbrev S1x9x128x128 : Shape := ⟨4, ![1, 9, 128, 128]⟩
abbrev S8x9x128x128 : Shape := ⟨4, ![8, 9, 128, 128]⟩
abbrev S72x16384 : Shape := ⟨2, ![72, 16384]⟩
abbrev S16x72 : Shape := ⟨2, ![16, 72]⟩
abbrev S16x128x128 : Shape := ⟨3, ![16, 128, 128]⟩
abbrev S16x16384 : Shape := ⟨2, ![16, 16384]⟩
abbrev S1x256x128x128 : Shape := ⟨4, ![1, 256, 128, 128]⟩
abbrev S1x128x128x128 : Shape := ⟨4, ![1, 128, 128, 128]⟩
abbrev S128x256 : Shape := ⟨2, ![128, 256]⟩
abbrev S128x2048 : Shape := ⟨2, ![128, 2048]⟩
abbrev S1x256x8x128 : Shape := ⟨4, ![1, 256, 8, 128]⟩
abbrev S256x8x128 : Shape := ⟨3, ![256, 8, 128]⟩
abbrev S2048x128 : Shape := ⟨2, ![2048, 128]⟩
abbrev S16x8x128 : Shape := ⟨3, ![16, 8, 128]⟩
abbrev S256x128 : Shape := ⟨2, ![256, 128]⟩
abbrev S1024x16 : Shape := ⟨2, ![1024, 16]⟩
abbrev S1024x256 : Shape := ⟨2, ![1024, 256]⟩
abbrev S1x128x8x128 : Shape := ⟨4, ![1, 128, 8, 128]⟩
abbrev S128x8x128 : Shape := ⟨3, ![128, 8, 128]⟩

abbrev nBuf : Space → Nat
  | .hbm => 210
  | .vmem => 21
  | .smem => 0
  | _ => 0

abbrev hbmTy0_0 (i : Nat) : BufTy := match i % 128 with
  | 0 => ⟨S8x256x128x128, .f32⟩
  | 1 => ⟨S16x256, .f32⟩
  | 2 => ⟨S256x16, .f32⟩
  | 3 => ⟨S16x8x9, .f32⟩
  | 4 => ⟨S128, .i32⟩
  | 5 => ⟨S128x1, .i32⟩
  | 6 => ⟨S1x128, .i32⟩
  | 7 => ⟨S128x128, .i32⟩
  | 8 => ⟨S128x128, .i32⟩
  | 9 => ⟨S128x128, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S128x128, .i32⟩
  | 17 => ⟨S128x128, .i32⟩
  | 18 => ⟨S_, .i32⟩
  | 19 => ⟨S128x128, .i32⟩
  | 20 => ⟨S128x128, .i1⟩
  | 21 => ⟨S_, .i32⟩
  | 22 => ⟨S128x128, .i32⟩
  | 23 => ⟨S128x128, .i1⟩
  | 24 => ⟨S_, .i32⟩
  | 25 => ⟨S_, .i1⟩
  | 26 => ⟨S128x128, .i1⟩
  | 27 => ⟨S128x128, .i1⟩
  | 28 => ⟨S128x128, .i1⟩
  | 29 => ⟨S128x128, .i32⟩
  | 30 => ⟨S128x128, .i32⟩
  | 31 => ⟨S128x128, .i32⟩
  | 32 => ⟨S128x128, .f32⟩
  | 33 => ⟨S_, .f32⟩
  | 34 => ⟨S128x128, .f32⟩
  | 35 => ⟨S128x128, .f32⟩
  | 36 => ⟨S128x128, .f32⟩
  | 37 => ⟨S_, .f32⟩
  | 38 => ⟨S128x128, .f32⟩
  | 39 => ⟨S128x128, .f32⟩
  | 40 => ⟨S64x128, .f32⟩
  | 41 => ⟨S64x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S64x128, .f32⟩
  | 49 => ⟨S64x128, .f32⟩
  | 50 => ⟨S128x128, .f32⟩
  | 51 => ⟨S128, .i32⟩
  | 52 => ⟨S128x1, .i32⟩
  | 53 => ⟨S_, .i32⟩
  | 54 => ⟨S128x1, .i32⟩
  | 55 => ⟨S128x1, .i32⟩
  | 56 => ⟨S16, .i32⟩
  | 57 => ⟨S1x16, .i32⟩
  | 58 => ⟨S128x16, .i32⟩
  | 59 => ⟨S128x16, .i32⟩
  | 60 => ⟨S128x16, .i1⟩
  | 61 => ⟨S128x16, .f32⟩
  | 62 => ⟨S2048, .i32⟩
  | 63 => ⟨S2048x1, .i32⟩
  | 64 => ⟨S_, .i32⟩
  | 65 => ⟨S2048x1, .i32⟩
  | 66 => ⟨S2048x1, .i32⟩
  | 67 => ⟨S256, .i32⟩
  | 68 => ⟨S1x256, .i32⟩
  | 69 => ⟨S2048x256, .i32⟩
  | 70 => ⟨S2048x256, .i32⟩
  | 71 => ⟨S2048x256, .i1⟩
  | 72 => ⟨S2048x256, .f32⟩
  | 73 => ⟨S256x2048, .f32⟩
  | 74 => ⟨S256x2048, .bf16⟩
  | 75 => ⟨S1024, .i32⟩
  | 76 => ⟨S1024x1, .i32⟩
  | 77 => ⟨S_, .i32⟩
  | 78 => ⟨S1024x1, .i32⟩
  | 79 => ⟨S1024x1, .i32⟩
  | 80 => ⟨S128, .i32⟩
  | 81 => ⟨S1x128, .i32⟩
  | 82 => ⟨S1024x128, .i32⟩
  | 83 => ⟨S1024x128, .i32⟩
  | 84 => ⟨S1024x128, .i1⟩
  | 85 => ⟨S1024x128, .f32⟩
  | 86 => ⟨S128, .i32⟩
  | 87 => ⟨S128x1, .i32⟩
  | 88 => ⟨S_, .i32⟩
  | 89 => ⟨S128x1, .i32⟩
  | 90 => ⟨S128x1, .i32⟩
  | 91 => ⟨S16, .i32⟩
  | 92 => ⟨S1x16, .i32⟩
  | 93 => ⟨S128x16, .i32⟩
  | 94 => ⟨S128x16, .i32⟩
  | 95 => ⟨S128x16, .i1⟩
  | 96 => ⟨S128x16, .f32⟩
  | 97 => ⟨S16x128, .f32⟩
  | 98 => ⟨S16x128, .bf16⟩
  | 99 => ⟨S128x128, .bf16⟩
  | 100 => ⟨S128x128, .bf16⟩
  | 101 => ⟨S128x128, .f32⟩
  | 102 => ⟨S128x128, .bf16⟩
  | 103 => ⟨S128x128, .f32⟩
  | 104 => ⟨S128x128, .bf16⟩
  | 105 => ⟨S128, .f32⟩
  | 106 => ⟨S128x1, .f32⟩
  | 107 => ⟨S_, .f32⟩
  | 108 => ⟨S128x1, .f32⟩
  | 109 => ⟨S128x1, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S128x1, .f32⟩
  | 116 => ⟨S1x128, .f32⟩
  | 117 => ⟨S128x128, .f32⟩
  | 118 => ⟨S128x128, .f32⟩
  | 119 => ⟨S128x128, .f32⟩
  | 120 => ⟨S128x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .f32⟩
  | 127 => ⟨S_, .f32⟩
  | _ => ⟨S8x256x128x128, .f32⟩

abbrev hbmTy0_1 (i : Nat) : BufTy := match i % 128 with
  | 0 => ⟨S_, .f32⟩
  | 1 => ⟨S128x128, .f32⟩
  | 2 => ⟨S128x128, .f32⟩
  | 3 => ⟨S_, .f32⟩
  | 4 => ⟨S128x128, .f32⟩
  | 5 => ⟨S128x128, .i1⟩
  | 6 => ⟨S_, .f32⟩
  | 7 => ⟨S128x128, .f32⟩
  | 8 => ⟨S128x128, .i1⟩
  | 9 => ⟨S_, .f32⟩
  | 10 => ⟨S_, .i1⟩
  | 11 => ⟨S128x128, .i1⟩
  | 12 => ⟨S128x128, .i1⟩
  | 13 => ⟨S128x128, .i1⟩
  | 14 => ⟨S128x128, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S128x128, .f32⟩
  | 21 => ⟨S128x128, .i32⟩
  | 22 => ⟨S_, .i32⟩
  | 23 => ⟨S_, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8x1x1, .f32⟩
  | 38 => ⟨S1x128x128, .f32⟩
  | 39 => ⟨S8x128x128, .f32⟩
  | 40 => ⟨S8x128x128, .f32⟩
  | 41 => ⟨S8x128x128, .f32⟩
  | 42 => ⟨S8x128x128, .f32⟩
  | 43 => ⟨S_, .f32⟩
  | 44 => ⟨S8x128x128, .f32⟩
  | 45 => ⟨S8x128x128, .f32⟩
  | 46 => ⟨S_, .f32⟩
  | 47 => ⟨S8x128x128, .f32⟩
  | 48 => ⟨S8x128x128, .f32⟩
  | 49 => ⟨S_, .f32⟩
  | 50 => ⟨S_, .f32⟩
  | 51 => ⟨S8x128x128, .f32⟩
  | 52 => ⟨S8x128x128, .f32⟩
  | 53 => ⟨S_, .f32⟩
  | 54 => ⟨S8x128x128, .f32⟩
  | 55 => ⟨S8x128x128, .i1⟩
  | 56 => ⟨S8x128x128, .f32⟩
  | 57 => ⟨S8x128x128, .f32⟩
  | 58 => ⟨S_, .f32⟩
  | 59 => ⟨S128x128, .f32⟩
  | 60 => ⟨S1x128x128, .f32⟩
  | 61 => ⟨S_, .f32⟩
  | 62 => ⟨S1x128x128, .f32⟩
  | 63 => ⟨S1x128x128, .f32⟩
  | 64 => ⟨S8x128x128, .f32⟩
  | 65 => ⟨S8x128x128, .f32⟩
  | 66 => ⟨S1x128x128, .i32⟩
  | 67 => ⟨S9, .i32⟩
  | 68 => ⟨S9x1x1, .i32⟩
  | 69 => ⟨S9x128x128, .i32⟩
  | 70 => ⟨S9x128x128, .i32⟩
  | 71 => ⟨S9x128x128, .i1⟩
  | 72 => ⟨S9x128x128, .f32⟩
  | 73 => ⟨S8x1x128x128, .f32⟩
  | 74 => ⟨S1x9x128x128, .f32⟩
  | 75 => ⟨S8x9x128x128, .f32⟩
  | 76 => ⟨S8x9x128x128, .f32⟩
  | 77 => ⟨S8x9x128x128, .f32⟩
  | 78 => ⟨S72x16384, .f32⟩
  | 79 => ⟨S16x72, .f32⟩
  | 80 => ⟨S16x128x128, .f32⟩
  | 81 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | .local _ .vmem, ⟨0, _⟩ => ⟨S16x72, .f32⟩
  | .local _ .vmem, ⟨1, _⟩ => ⟨S72x16384, .f32⟩
  | .local _ .vmem, ⟨2, _⟩ => ⟨S16x128x128, .f32⟩
  | .local _ .vmem, ⟨3, _⟩ => ⟨S1x256x128x128, .f32⟩
  | .local _ .vmem, ⟨4, _⟩ => ⟨S1x256x128x128, .f32⟩
  | .local _ .vmem, ⟨5, _⟩ => ⟨S16x256, .f32⟩
  | .local _ .vmem, ⟨6, _⟩ => ⟨S128x16, .f32⟩
  | .local _ .vmem, ⟨7, _⟩ => ⟨S128x16, .f32⟩
  | .local _ .vmem, ⟨8, _⟩ => ⟨S16x128x128, .f32⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x16, .f32⟩
  | .local _ .vmem, ⟨14, _⟩ => ⟨S256x2048, .bf16⟩
  | .local _ .vmem, ⟨15, _⟩ => ⟨S1024x128, .f32⟩
  | .local _ .vmem, ⟨16, _⟩ => ⟨S16x128, .bf16⟩
  | .local _ .vmem, ⟨17, _⟩ => ⟨S1x128x128x128, .f32⟩
  | .local _ .vmem, ⟨18, _⟩ => ⟨S1x128x128x128, .f32⟩
  | .local _ .vmem, ⟨19, _⟩ => ⟨S16x128x128, .bf16⟩
  | .local _ .vmem, ⟨20, _⟩ => ⟨S16x128x128, .bf16⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_call1_v1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_6 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_7 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_8 : Ref sig .tc := ⟨.hbm, 124, rfl⟩
abbrev main_v86 : Ref sig .tc := ⟨.hbm, 125, rfl⟩
abbrev main_v87 : Ref sig .tc := ⟨.hbm, 126, rfl⟩
abbrev main_cst_9 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_cst : Ref sig .tc := ⟨.hbm, 131, rfl⟩
abbrev main_call3_v3 : Ref sig .tc := ⟨.hbm, 132, rfl⟩
abbrev main_call3_v4 : Ref sig .tc := ⟨.hbm, 133, rfl⟩
abbrev main_call3_cst_0 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_v12 : Ref sig .tc := ⟨.hbm, 143, rfl⟩
abbrev main_v88 : Ref sig .tc := ⟨.hbm, 144, rfl⟩
abbrev main_cst_10 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_c_11 : Ref sig .tc := ⟨.hbm, 150, rfl⟩
abbrev main_c_12 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_v93 : Ref sig .tc := ⟨.hbm, 157, rfl⟩
abbrev main_v94 : Ref sig .tc := ⟨.hbm, 158, rfl⟩
abbrev main_cst_13 : Ref sig .tc := ⟨.hbm, 159, rfl⟩
abbrev main_v95 : Ref sig .tc := ⟨.hbm, 160, rfl⟩
abbrev main_v96 : Ref sig .tc := ⟨.hbm, 161, rfl⟩
abbrev main_cst_14 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_15 : Ref sig .tc := ⟨.hbm, 171, rfl⟩
abbrev main_v105 : Ref sig .tc := ⟨.hbm, 172, rfl⟩
abbrev main_v106 : Ref sig .tc := ⟨.hbm, 173, rfl⟩
abbrev main_cst_16 : Ref sig .tc := ⟨.hbm, 174, rfl⟩
abbrev main_v107 : Ref sig .tc := ⟨.hbm, 175, rfl⟩
abbrev main_v108 : Ref sig .tc := ⟨.hbm, 176, rfl⟩
abbrev main_cst_17 : Ref sig .tc := ⟨.hbm, 177, rfl⟩
abbrev main_call5_v0 : Ref sig .tc := ⟨.hbm, 178, rfl⟩
abbrev main_call5_v1 : Ref sig .tc := ⟨.hbm, 179, rfl⟩
abbrev main_v109 : Ref sig .tc := ⟨.hbm, 180, rfl⟩
abbrev main_cst_18 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_19 : Ref sig .tc := ⟨.hbm, 186, rfl⟩
abbrev main_v114 : Ref sig .tc := ⟨.hbm, 187, rfl⟩
abbrev main_v115 : Ref sig .tc := ⟨.hbm, 188, rfl⟩
abbrev main_cst_20 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg12_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem12_1 : DmaSem sig := 18

abbrev nD : Nat := 1
abbrev τ : Topo := Topo.v7x

variable {F : FTy → Type} [FloatOps F]

abbrev grid0 : Pipeline.Grid := .none

abbrev stage0_0 : Fin 1 → Memref sig .tc .vmem S16x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![8, 2], ![false, false]⟩

def k1_off1 (i : grid1.Coords) : Fin 4 → Nat :=
  let c0_23 : Index := 0#32
  let arg1 : BitVec 32 := BitVec.ofNat 32 (i 1).val
  let c128_i32 : BitVec 32 := 128#32
  let v56 : BitVec 32 := Scalar.muli arg1 c128_i32
  let v57 : Index := Scalar.indexCast v56
  let c0_24 : Index := 0#32
  let c0_25 : Index := 0#32
  ![0, v57.toNat, 0, 0]
def k1_off2 (i : grid1.Coords) : Fin 4 → Nat :=
  let c0_27 : Index := 0#32
  let arg1 : BitVec 32 := BitVec.ofNat 32 (i 1).val
  let c128_i32_26 : BitVec 32 := 128#32
  let v60 : BitVec 32 := Scalar.muli arg1 c128_i32_26
  let v61 : Index := Scalar.indexCast v60
  let c8_28 : Index := 8#32
  let c0_29 : Index := 0#32
  ![0, v61.toNat, 8, 0]
def k1_off3 (i : grid1.Coords) : Fin 4 → Nat :=
  let c0_44 : Index := 0#32
  let arg1 : BitVec 32 := BitVec.ofNat 32 (i 1).val
  let c128_i32_43 : BitVec 32 := 128#32
  let v82 : BitVec 32 := Scalar.muli arg1 c128_i32_43
  let v83 : Index := Scalar.indexCast v82
  let c16_45 : Index := 16#32
  let c0_46 : Index := 0#32
  ![0, v83.toNat, 16, 0]
def k1_off4 (i : grid1.Coords) : Fin 4 → Nat :=
  let c0_48 : Index := 0#32
  let arg1 : BitVec 32 := BitVec.ofNat 32 (i 1).val
  let c128_i32_47 : BitVec 32 := 128#32
  let v86 : BitVec 32 := Scalar.muli arg1 c128_i32_47
  let v87 : Index := Scalar.indexCast v86
  let c24_49 : Index := 24#32
  let c0_50 : Index := 0#32
  ![0, v87.toNat, 24, 0]
def k1_off5 (i : grid1.Coords) : Fin 4 → Nat :=
  let c0_65 : Index := 0#32
  let arg1 : BitVec 32 := BitVec.ofNat 32 (i 1).val
  let c128_i32_64 : BitVec 32 := 128#32
  let v108 : BitVec 32 := Scalar.muli arg1 c128_i32_64
  let v109 : Index := Scalar.indexCast v108
  let c32_66 : Index := 32#32
  let c0_67 : Index := 0#32
  ![0, v109.toNat, 32, 0]
def k1_off6 (i : grid1.Coords) : Fin 4 → Nat :=
  let c0_69 : Index := 0#32
  let arg1 : BitVec 32 := BitVec.ofNat 32 (i 1).val
  let c128_i32_68 : BitVec 32 := 128#32
  let v112 : BitVec 32 := Scalar.muli arg1 c128_i32_68
  let v113 : Index := Scalar.indexCast v112
  let c40_70 : Index := 40#32
  let c0_71 : Index := 0#32
  ![0, v113.toNat, 40, 0]
def k1_off7 (i : grid1.Coords) : Fin 4 → Nat :=
  let c0_86 : Index := 0#32
  let arg1 : BitVec 32 := BitVec.ofNat 32 (i 1).val
  let c128_i32_85 : BitVec 32 := 128#32
  let v134 : BitVec 32 := Scalar.muli arg1 c128_i32_85
  let v135 : Index := Scalar.indexCast v134
  let c48_87 : Index := 48#32
  let c0_88 : Index := 0#32
  ![0, v135.toNat, 48, 0]
def k1_off8 (i : grid1.Coords) : Fin 4 → Nat :=
  let c0_90 : Index := 0#32
  let arg1 : BitVec 32 := BitVec.ofNat 32 (i 1).val
  let c128_i32_89 : BitVec 32 := 128#32
  let v138 : BitVec 32 := Scalar.muli arg1 c128_i32_89
  let v139 : Index := Scalar.indexCast v138
  let c56_91 : Index := 56#32
  let c0_92 : Index := 0#32
  ![0, v139.toNat, 56, 0]
def k1_off9 (i : grid1.Coords) : Fin 4 → Nat :=
  let c0_107 : Index := 0#32
  let arg1 : BitVec 32 := BitVec.ofNat 32 (i 1).val
  let c128_i32_106 : BitVec 32 := 128#32
  let v160 : BitVec 32 := Scalar.muli arg1 c128_i32_106
  let v161 : Index := Scalar.indexCast v160
  let c64_108 : Index := 64#32
  let c0_109 : Index := 0#32
  ![0, v161.toNat, 64, 0]
def k1_off10 (i : grid1.Coords) : Fin 4 → Nat :=
  let c0_111 : Index := 0#32
  let arg1 : BitVec 32 := BitVec.ofNat 32 (i 1).val
  let c128_i32_110 : BitVec 32 := 128#32
  let v164 : BitVec 32 := Scalar.muli arg1 c128_i32_110
  let v165 : Index := Scalar.indexCast v164
  let c72_112 : Index := 72#32
  let c0_113 : Index := 0#32
  ![0, v165.toNat, 72, 0]
def k1_off11 (i : grid1.Coords) : Fin 4 → Nat :=
  let c0_128 : Index := 0#32
  let arg1 : BitVec 32 := BitVec.ofNat 32 (i 1).val
  let c128_i32_127 : BitVec 32 := 128#32
  let v186 : BitVec 32 := Scalar.muli arg1 c128_i32_127
  let v187 : Index := Scalar.indexCast v186
  let c80_129 : Index := 80#32
  let c0_130 : Index := 0#32
  ![0, v187.toNat, 80, 0]
def k1_off12 (i : grid1.Coords) : Fin 4 → Nat :=
  let c0_132 : Index := 0#32
  let arg1 : BitVec 32 := BitVec.ofNat 32 (i 1).val
  let c128_i32_131 : BitVec 32 := 128#32
  let v190 : BitVec 32 := Scalar.muli arg1 c128_i32_131
  let v191 : Index := Scalar.indexCast v190
  let c88_133 : Index := 88#32
  let c0_134 : Index := 0#32
  ![0, v191.toNat, 88, 0]
def k1_off13 (i : grid1.Coords) : Fin 4 → Nat :=
  let c0_149 : Index := 0#32
  let arg1 : BitVec 32 := BitVec.ofNat 32 (i 1).val
  let c128_i32_148 : BitVec 32 := 128#32
  let v212 : BitVec 32 := Scalar.muli arg1 c128_i32_148
  let v213 : Index := Scalar.indexCast v212
  let c96_150 : Index := 96#32
  let c0_151 : Index := 0#32
  ![0, v213.toNat, 96, 0]
def k1_off14 (i : grid1.Coords) : Fin 4 → Nat :=
  let c0_153 : Index := 0#32
  let arg1 : BitVec 32 := BitVec.ofNat 32 (i 1).val
  let c128_i32_152 : BitVec 32 := 128#32
  let v216 : BitVec 32 := Scalar.muli arg1 c128_i32_152
  let v217 : Index := Scalar.indexCast v216
  let c104_154 : Index := 104#32
  let c0_155 : Index := 0#32
  ![0, v217.toNat, 104, 0]
def k1_off15 (i : grid1.Coords) : Fin 4 → Nat :=
  let c0_170 : Index := 0#32
  let arg1 : BitVec 32 := BitVec.ofNat 32 (i 1).val
  let c128_i32_169 : BitVec 32 := 128#32
  let v238 : BitVec 32 := Scalar.muli arg1 c128_i32_169
  let v239 : Index := Scalar.indexCast v238
  let c112_171 : Index := 112#32
  let c0_172 : Index := 0#32
  ![0, v239.toNat, 112, 0]
def k1_off16 (i : grid1.Coords) : Fin 4 → Nat :=
  let c0_174 : Index := 0#32
  let arg1 : BitVec 32 := BitVec.ofNat 32 (i 1).val
  let c128_i32_173 : BitVec 32 := 128#32
  let v242 : BitVec 32 := Scalar.muli arg1 c128_i32_173
  let v243 : Index := Scalar.indexCast v242
  let c120_175 : Index := 120#32
  let c0_176 : Index := 0#32
  ![0, v243.toNat, 120, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S16x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S256x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1024x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S16x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x128x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S8x256x128x128 : Shape := ⟨4, ![8, 256, 128, 128]⟩
abbrev S16x256 : Shape := ⟨2, ![16, 256]⟩
abbrev S256x16 : Shape := ⟨2, ![256, 16]⟩
abbrev S16x8x9 : Shape := ⟨3, ![16, 8, 9]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S8 : Shape := ⟨1, ![8]⟩
abbrev S8x1x1 : Shape := ⟨3, ![8, 1, 1]⟩
abbrev S1x128x128 : Shape := ⟨3, ![1, 128, 128]⟩
abbrev S8x128x128 : Shape := ⟨3, ![8, 128, 128]⟩
abbrev S16x8x128x128 : Shape := ⟨4, ![16, 8, 128, 128]⟩
abbrev S8x16x128x128 : Shape := ⟨4, ![8, 16, 128, 128]⟩
abbrev S8x16x64x128 : Shape := ⟨4, ![8, 16, 64, 128]⟩
abbrev S8x16x128x64 : Shape := ⟨4, ![8, 16, 128, 64]⟩
abbrev S128x128x1 : Shape := ⟨3, ![128, 128, 1]⟩
abbrev S128x128x16 : Shape := ⟨3, ![128, 128, 16]⟩
abbrev S16x128x128 : Shape := ⟨3, ![16, 128, 128]⟩
abbrev S1x16x128x128 : Shape := ⟨4, ![1, 16, 128, 128]⟩
abbrev S256x8x128x128 : Shape := ⟨4, ![256, 8, 128, 128]⟩

abbrev nBuf : Space → Nat
  | .hbm => 203
  | .vmem => 0
  | .smem => 0
  | _ => 0

abbrev hbmTy0_0 (i : Nat) : BufTy := match i % 128 with
  | 0 => ⟨S8x256x128x128, .f32⟩
  | 1 => ⟨S16x256, .f32⟩
  | 2 => ⟨S256x16, .f32⟩
  | 3 => ⟨S16x8x9, .f32⟩
  | 4 => ⟨S128, .f32⟩
  | 5 => ⟨S128x1, .f32⟩
  | 6 => ⟨S_, .f32⟩
  | 7 => ⟨S128x1, .f32⟩
  | 8 => ⟨S128x1, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S128x1, .f32⟩
  | 15 => ⟨S1x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S_, .f32⟩
  | 27 => ⟨S_, .f32⟩
  | 28 => ⟨S128x128, .f32⟩
  | 29 => ⟨S128x128, .f32⟩
  | 30 => ⟨S_, .f32⟩
  | 31 => ⟨S128x128, .f32⟩
  | 32 => ⟨S128x128, .i1⟩
  | 33 => ⟨S_, .f32⟩
  | 34 => ⟨S128x128, .f32⟩
  | 35 => ⟨S128x128, .i1⟩
  | 36 => ⟨S_, .f32⟩
  | 37 => ⟨S_, .i1⟩
  | 38 => ⟨S128x128, .i1⟩
  | 39 => ⟨S128x128, .i1⟩
  | 40 => ⟨S128x128, .i1⟩
  | 41 => ⟨S128x128, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S128x128, .f32⟩
  | 48 => ⟨S128x128, .i32⟩
  | 49 => ⟨S_, .i32⟩
  | 50 => ⟨S_, .i32⟩
  | 51 => ⟨S_, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8x1x1, .f32⟩
  | 65 => ⟨S1x128x128, .f32⟩
  | 66 => ⟨S8x128x128, .f32⟩
  | 67 => ⟨S8x128x128, .f32⟩
  | 68 => ⟨S8x128x128, .f32⟩
  | 69 => ⟨S8x128x128, .f32⟩
  | 70 => ⟨S_, .f32⟩
  | 71 => ⟨S8x128x128, .f32⟩
  | 72 => ⟨S8x128x128, .f32⟩
  | 73 => ⟨S_, .f32⟩
  | 74 => ⟨S8x128x128, .f32⟩
  | 75 => ⟨S8x128x128, .f32⟩
  | 76 => ⟨S_, .f32⟩
  | 77 => ⟨S_, .f32⟩
  | 78 => ⟨S8x128x128, .f32⟩
  | 79 => ⟨S8x128x128, .f32⟩
  | 80 => ⟨S_, .f32⟩
  | 81 => ⟨S8x128x128, .f32⟩
  | 82 => ⟨S8x128x128, .i1⟩
  | 83 => ⟨S8x128x128, .f32⟩
  | 84 => ⟨S8x128x128, .f32⟩
  | 85 => ⟨S_, .f32⟩
  | 86 => ⟨S128x128, .f32⟩
  | 87 => ⟨S1x128x128, .f32⟩
  | 88 => ⟨S_, .f32⟩
  | 89 => ⟨S1x128x128, .f32⟩
  | 90 => ⟨S1x128x128, .f32⟩
  | 91 => ⟨S8x128x128, .f32⟩
  | 92 => ⟨S8x128x128, .f32⟩
  | 93 => ⟨S128, .i32⟩
  | 94 => ⟨S128x1, .i32⟩
  | 95 => ⟨S1x128, .i32⟩
  | 96 => ⟨S128x128, .i32⟩
  | 97 => ⟨S128x128, .i32⟩
  | 98 => ⟨S128x128, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S128x128, .i32⟩
  | 106 => ⟨S128x128, .i32⟩
  | 107 => ⟨S_, .i32⟩
  | 108 => ⟨S128x128, .i32⟩
  | 109 => ⟨S128x128, .i1⟩
  | 110 => ⟨S_, .i32⟩
  | 111 => ⟨S128x128, .i32⟩
  | 112 => ⟨S128x128, .i1⟩
  | 113 => ⟨S_, .i32⟩
  | 114 => ⟨S_, .i1⟩
  | 115 => ⟨S128x128, .i1⟩
  | 116 => ⟨S128x128, .i1⟩
  | 117 => ⟨S128x128, .i1⟩
  | 118 => ⟨S128x128, .i32⟩
  | 119 => ⟨S128x128, .i32⟩
  | 120 => ⟨S128x128, .i32⟩
  | 121 => ⟨S128x128, .f32⟩
  | 122 => ⟨S_, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S8x256x128x128, .f32⟩

abbrev hbmTy0_1 (i : Nat) : BufTy := match i % 128 with
  | 0 => ⟨S128x128, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S16x8x128x128, .f32⟩
  | 7 => ⟨S8x16x128x128, .f32⟩
  | 8 => ⟨S8x16x128x128, .f32⟩
  | 9 => ⟨S8x16x128x128, .f32⟩
  | 10 => ⟨S8x16x128x128, .f32⟩
  | 11 => ⟨S8x16x128x128, .f32⟩
  | 12 => ⟨S8x16x128x128, .f32⟩
  | 13 => ⟨S8x16x128x128, .f32⟩
  | 14 => ⟨S8x16x128x128, .f32⟩
  | 15 => ⟨S8x16x128x128, .f32⟩
  | 16 => ⟨S8x16x128x128, .f32⟩
  | 17 => ⟨S8x16x128x128, .f32⟩
  | 18 => ⟨S8x16x64x128, .f32⟩
  | 19 => ⟨S8x16x64x128, .f32⟩
  | 20 => ⟨S8x16x128x128, .f32⟩
  | 21 => ⟨S8x16x128x64, .f32⟩
  | 22 => ⟨S8x16x128x64, .f32⟩
  | 23 => ⟨S8x16x128x128, .f32⟩
  | 24 => ⟨S8x16x64x128, .f32⟩
  | 25 => ⟨S8x16x64x128, .f32⟩
  | 26 => ⟨S8x16x128x128, .f32⟩
  | 27 => ⟨S8x16x128x64, .f32⟩
  | 28 => ⟨S8x16x128x64, .f32⟩
  | 29 => ⟨S8x16x128x128, .f32⟩
  | 30 => ⟨S_, .i32⟩
  | 31 => ⟨S128x128, .i32⟩
  | 32 => ⟨S128x128, .i1⟩
  | 33 => ⟨S_, .i32⟩
  | 34 => ⟨S128x128, .i32⟩
  | 35 => ⟨S128x128, .i32⟩
  | 36 => ⟨S128x128, .i32⟩
  | 37 => ⟨S128x128x1, .i32⟩
  | 38 => ⟨S16x8x128x128, .f32⟩
  | 39 => ⟨S128x128x16, .f32⟩
  | 40 => ⟨S16x128x128, .f32⟩
  | 41 => ⟨S1x16x128x128, .f32⟩
  | 42 => ⟨S8x16x128x128, .f32⟩
  | 43 => ⟨S8x16x128x128, .f32⟩
  | 44 => ⟨S8x16x64x128, .f32⟩
  | 45 => ⟨S8x16x64x128, .f32⟩
  | 46 => ⟨S8x16x128x128, .f32⟩
  | 47 => ⟨S8x16x128x64, .f32⟩
  | 48 => ⟨S8x16x128x64, .f32⟩
  | 49 => ⟨S8x16x128x128, .f32⟩
  | 50 => ⟨S1x16x128x128, .f32⟩
  | 51 => ⟨S8x16x128x128, .f32⟩
  | 52 => ⟨S8x16x128x128, .f32⟩
  | 53 => ⟨S8x16x64x128, .f32⟩
  | 54 => ⟨S8x16x64x128, .f32⟩
  | 55 => ⟨S8x16x128x128, .f32⟩
  | 56 => ⟨S8x16x128x64, .f32⟩
  | 57 => ⟨S8x16x128x64, .f32⟩
  | 58 => ⟨S8x16x128x128, .f32⟩
  | 59 => ⟨S8x16x128x128, .f32⟩
  | 60 => ⟨S8x16x128x128, .f32⟩
  | 61 => ⟨S8x16x128x128, .f32⟩
  | 62 => ⟨S8x16x128x128, .f32⟩
  | 63 => ⟨S8x16x128x128, .f32⟩
  | 64 => ⟨S8x16x128x128, .f32⟩
  | 65 => ⟨S8x16x128x128, .f32⟩
  | 66 => ⟨S8x16x128x128, .f32⟩
  | 67 => ⟨S8x16x128x128, .f32⟩
  | 68 => ⟨S8x16x128x128, .f32⟩
  | 69 => ⟨S8x16x128x128, .f32⟩
  | 70 => ⟨S8x16x128x128, .f32⟩
  | 71 => ⟨S8x16x128x128, .f32⟩
  | 72 => ⟨S256x8x128x128, .f32⟩
  | 73 => ⟨S8x256x128x128, .f32⟩
  | 74 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_cst : Ref sig .tc := ⟨.hbm, 30, rfl⟩
abbrev main_call0_v3 : Ref sig .tc := ⟨.hbm, 31, rfl⟩
abbrev main_call0_v4 : Ref sig .tc := ⟨.hbm, 32, rfl⟩
abbrev main_call0_cst_0 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_v5 : Ref sig .tc := ⟨.hbm, 108, rfl⟩
abbrev main_call3_v6 : Ref sig .tc := ⟨.hbm, 109, rfl⟩
abbrev main_call3_c_2 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_v57 : Ref sig .tc := ⟨.hbm, 120, rfl⟩
abbrev main_v58 : Ref sig .tc := ⟨.hbm, 121, rfl⟩
abbrev main_cst_14 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_15 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_16 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v80 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v81 : Ref sig .tc := ⟨.hbm, 157, rfl⟩
abbrev main_c_17 : Ref sig .tc := ⟨.hbm, 158, rfl⟩
abbrev main_v82 : Ref sig .tc := ⟨.hbm, 159, rfl⟩
abbrev main_v83 : Ref sig .tc := ⟨.hbm, 160, rfl⟩
abbrev main_c_18 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_call7_v0 : Ref sig .tc := ⟨.hbm, 181, rfl⟩
abbrev main_call7_v1 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩

abbrev nD : Nat := 1
abbrev τ : Topo := Topo.v7x

variable {F : FTy → Type} [FloatOps F]
-- ==== PolarIdeal.lean ====
abbrev S8x256x128x128 : Shape := ⟨4, ![8, 256, 128, 128]⟩
abbrev S16x256 : Shape := ⟨2, ![16, 256]⟩
abbrev S256x16 : Shape := ⟨2, ![256, 16]⟩
abbrev S16x8x9 : Shape := ⟨3, ![16, 8, 9]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S8 : Shape := ⟨1, ![8]⟩
abbrev S8x1x1 : Shape := ⟨3, ![8, 1, 1]⟩
abbrev S1x128x128 : Shape := ⟨3, ![1, 128, 128]⟩
abbrev S8x128x128 : Shape := ⟨3, ![8, 128, 128]⟩
abbrev S16x8x128x128 : Shape := ⟨4, ![16, 8, 128, 128]⟩
abbrev S8x16x128x128 : Shape := ⟨4, ![8, 16, 128, 128]⟩
abbrev S8x16x64x128 : Shape := ⟨4, ![8, 16, 64, 128]⟩
abbrev S8x16x128x64 : Shape := ⟨4, ![8, 16, 128, 64]⟩
abbrev S128x128x1 : Shape := ⟨3, ![128, 128, 1]⟩
abbrev S128x128x16 : Shape := ⟨3, ![128, 128, 16]⟩
abbrev S16x128x128 : Shape := ⟨3, ![16, 128, 128]⟩
abbrev S1x16x128x128 : Shape := ⟨4, ![1, 16, 128, 128]⟩
abbrev S256x8x128x128 : Shape := ⟨4, ![256, 8, 128, 128]⟩

abbrev nBuf : Space → Nat
  | .hbm => 212
  | .vmem => 0
  | .smem => 0
  | _ => 0

abbrev hbmTy0_0 (i : Nat) : BufTy := match i % 128 with
  | 0 => ⟨S8x256x128x128, .f32⟩
  | 1 => ⟨S16x256, .f32⟩
  | 2 => ⟨S256x16, .f32⟩
  | 3 => ⟨S16x8x9, .f32⟩
  | 4 => ⟨S128, .f32⟩
  | 5 => ⟨S128x1, .f32⟩
  | 6 => ⟨S_, .f32⟩
  | 7 => ⟨S128x1, .f32⟩
  | 8 => ⟨S128x1, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S128x1, .f32⟩
  | 15 => ⟨S1x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S_, .f32⟩
  | 27 => ⟨S_, .f32⟩
  | 28 => ⟨S128x128, .f32⟩
  | 29 => ⟨S128x128, .f32⟩
  | 30 => ⟨S_, .f32⟩
  | 31 => ⟨S128x128, .f32⟩
  | 32 => ⟨S128x128, .i1⟩
  | 33 => ⟨S_, .f32⟩
  | 34 => ⟨S128x128, .f32⟩
  | 35 => ⟨S128x128, .i1⟩
  | 36 => ⟨S_, .f32⟩
  | 37 => ⟨S_, .i1⟩
  | 38 => ⟨S128x128, .i1⟩
  | 39 => ⟨S128x128, .i1⟩
  | 40 => ⟨S128x128, .i1⟩
  | 41 => ⟨S128x128, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S128x128, .f32⟩
  | 48 => ⟨S128x128, .i32⟩
  | 49 => ⟨S_, .i32⟩
  | 50 => ⟨S_, .i32⟩
  | 51 => ⟨S_, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8x1x1, .f32⟩
  | 65 => ⟨S1x128x128, .f32⟩
  | 66 => ⟨S8x128x128, .f32⟩
  | 67 => ⟨S8x128x128, .f32⟩
  | 68 => ⟨S8x128x128, .f32⟩
  | 69 => ⟨S8x128x128, .f32⟩
  | 70 => ⟨S_, .f32⟩
  | 71 => ⟨S8x128x128, .f32⟩
  | 72 => ⟨S8x128x128, .f32⟩
  | 73 => ⟨S_, .f32⟩
  | 74 => ⟨S8x128x128, .f32⟩
  | 75 => ⟨S8x128x128, .f32⟩
  | 76 => ⟨S_, .f32⟩
  | 77 => ⟨S_, .f32⟩
  | 78 => ⟨S8x128x128, .f32⟩
  | 79 => ⟨S8x128x128, .f32⟩
  | 80 => ⟨S_, .f32⟩
  | 81 => ⟨S8x128x128, .f32⟩
  | 82 => ⟨S8x128x128, .i1⟩
  | 83 => ⟨S8x128x128, .f32⟩
  | 84 => ⟨S8x128x128, .f32⟩
  | 85 => ⟨S_, .f32⟩
  | 86 => ⟨S128x128, .f32⟩
  | 87 => ⟨S1x128x128, .f32⟩
  | 88 => ⟨S_, .f32⟩
  | 89 => ⟨S1x128x128, .f32⟩
  | 90 => ⟨S1x128x128, .f32⟩
  | 91 => ⟨S8x128x128, .f32⟩
  | 92 => ⟨S8x128x128, .f32⟩
  | 93 => ⟨S128, .i32⟩
  | 94 => ⟨S128x1, .i32⟩
  | 95 => ⟨S1x128, .i32⟩
  | 96 => ⟨S128x128, .i32⟩
  | 97 => ⟨S128x128, .i32⟩
  | 98 => ⟨S128x128, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S128x128, .i32⟩
  | 106 => ⟨S128x128, .i32⟩
  | 107 => ⟨S_, .i32⟩
  | 108 => ⟨S128x128, .i32⟩
  | 109 => ⟨S128x128, .i1⟩
  | 110 => ⟨S_, .i32⟩
  | 111 => ⟨S128x128, .i32⟩
  | 112 => ⟨S128x128, .i1⟩
  | 113 => ⟨S_, .i32⟩
  | 114 => ⟨S_, .i1⟩
  | 115 => ⟨S128x128, .i1⟩
  | 116 => ⟨S128x128, .i1⟩
  | 117 => ⟨S128x128, .i1⟩
  | 118 => ⟨S128x128, .i32⟩
  | 119 => ⟨S128x128, .i32⟩
  | 120 => ⟨S128x128, .i32⟩
  | 121 => ⟨S128x128, .f32⟩
  | 122 => ⟨S_, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S8x256x128x128, .f32⟩

abbrev hbmTy0_1 (i : Nat) : BufTy := match i % 128 with
  | 0 => ⟨S128x128, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S16x8x128x128, .f32⟩
  | 7 => ⟨S8x16x128x128, .f32⟩
  | 8 => ⟨S8x16x128x128, .f32⟩
  | 9 => ⟨S8x16x128x128, .f32⟩
  | 10 => ⟨S8x16x128x128, .f32⟩
  | 11 => ⟨S8x16x128x128, .f32⟩
  | 12 => ⟨S8x16x128x128, .f32⟩
  | 13 => ⟨S8x16x128x128, .f32⟩
  | 14 => ⟨S8x16x128x128, .f32⟩
  | 15 => ⟨S8x16x128x128, .f32⟩
  | 16 => ⟨S8x16x128x128, .f32⟩
  | 17 => ⟨S8x16x128x128, .f32⟩
  | 18 => ⟨S8x16x64x128, .f32⟩
  | 19 => ⟨S8x16x64x128, .f32⟩
  | 20 => ⟨S8x16x128x128, .f32⟩
  | 21 => ⟨S8x16x128x64, .f32⟩
  | 22 => ⟨S8x16x128x64, .f32⟩
  | 23 => ⟨S8x16x128x128, .f32⟩
  | 24 => ⟨S8x16x64x128, .f32⟩
  | 25 => ⟨S8x16x64x128, .f32⟩
  | 26 => ⟨S8x16x128x128, .f32⟩
  | 27 => ⟨S8x16x128x64, .f32⟩
  | 28 => ⟨S8x16x128x64, .f32⟩
  | 29 => ⟨S8x16x128x128, .f32⟩
  | 30 => ⟨S8x16x128x128, .f32⟩
  | 31 => ⟨S8x16x128x128, .f32⟩
  | 32 => ⟨S8x16x128x128, .f32⟩
  | 33 => ⟨S8x16x128x128, .f32⟩
  | 34 => ⟨S_, .i32⟩
  | 35 => ⟨S128x128, .i32⟩
  | 36 => ⟨S128x128, .i1⟩
  | 37 => ⟨S_, .i32⟩
  | 38 => ⟨S128x128, .i32⟩
  | 39 => ⟨S128x128, .i32⟩
  | 40 => ⟨S128x128, .i32⟩
  | 41 => ⟨S128x128x1, .i32⟩
  | 42 => ⟨S16x8x128x128, .f32⟩
  | 43 => ⟨S128x128x16, .f32⟩
  | 44 => ⟨S16x128x128, .f32⟩
  | 45 => ⟨S8x16x128x128, .f32⟩
  | 46 => ⟨S1x16x128x128, .f32⟩
  | 47 => ⟨S8x16x128x128, .f32⟩
  | 48 => ⟨S8x16x128x128, .f32⟩
  | 49 => ⟨S8x16x128x128, .f32⟩
  | 50 => ⟨S8x16x128x128, .f32⟩
  | 51 => ⟨S8x16x64x128, .f32⟩
  | 52 => ⟨S8x16x64x128, .f32⟩
  | 53 => ⟨S8x16x128x128, .f32⟩
  | 54 => ⟨S8x16x128x64, .f32⟩
  | 55 => ⟨S8x16x128x64, .f32⟩
  | 56 => ⟨S8x16x128x128, .f32⟩
  | 57 => ⟨S1x16x128x128, .f32⟩
  | 58 => ⟨S8x16x128x128, .f32⟩
  | 59 => ⟨S8x16x128x128, .f32⟩
  | 60 => ⟨S8x16x128x128, .f32⟩
  | 61 => ⟨S8x16x128x128, .f32⟩
  | 62 => ⟨S8x16x64x128, .f32⟩
  | 63 => ⟨S8x16x64x128, .f32⟩
  | 64 => ⟨S8x16x128x128, .f32⟩
  | 65 => ⟨S8x16x128x64, .f32⟩
  | 66 => ⟨S8x16x128x64, .f32⟩
  | 67 => ⟨S8x16x128x128, .f32⟩
  | 68 => ⟨S8x16x128x128, .f32⟩
  | 69 => ⟨S8x16x128x128, .f32⟩
  | 70 => ⟨S8x16x128x128, .f32⟩
  | 71 => ⟨S8x16x128x128, .f32⟩
  | 72 => ⟨S8x16x128x128, .f32⟩
  | 73 => ⟨S8x16x128x128, .f32⟩
  | 74 => ⟨S8x16x128x128, .f32⟩
  | 75 => ⟨S8x16x128x128, .f32⟩
  | 76 => ⟨S8x16x128x128, .f32⟩
  | 77 => ⟨S8x16x128x128, .f32⟩
  | 78 => ⟨S8x16x128x128, .f32⟩
  | 79 => ⟨S8x16x128x128, .f32⟩
  | 80 => ⟨S8x16x128x128, .f32⟩
  | 81 => ⟨S256x8x128x128, .f32⟩
  | 82 => ⟨S8x256x128x128, .f32⟩
  | 83 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_cst : Ref sig .tc := ⟨.hbm, 30, rfl⟩
abbrev main_call0_v3 : Ref sig .tc := ⟨.hbm, 31, rfl⟩
abbrev main_call0_v4 : Ref sig .tc := ⟨.hbm, 32, rfl⟩
abbrev main_call0_cst_0 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_v5 : Ref sig .tc := ⟨.hbm, 108, rfl⟩
abbrev main_call3_v6 : Ref sig .tc := ⟨.hbm, 109, rfl⟩
abbrev main_call3_c_2 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_v57 : Ref sig .tc := ⟨.hbm, 120, rfl⟩
abbrev main_v58 : Ref sig .tc := ⟨.hbm, 121, rfl⟩
abbrev main_cst_14 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_15 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_16 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v80 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_c_17 : Ref sig .tc := ⟨.hbm, 162, rfl⟩
abbrev main_v86 : Ref sig .tc := ⟨.hbm, 163, rfl⟩
abbrev main_v87 : Ref sig .tc := ⟨.hbm, 164, rfl⟩
abbrev main_c_18 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_call7_v0 : Ref sig .tc := ⟨.hbm, 190, rfl⟩
abbrev main_call7_v1 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩

abbrev nD : Nat := 1
abbrev τ : Topo := Topo.v7x

variable {F : FTy → Type} [FloatOps F]
-- ==== Proof.Ideal.Runs.lean ====
/-
  The enhancement call's body between its windows: what each input window holds at a point of the grid, the
  condition of the body's one branch as a condition on the point, and the names the two runs share.
  `W c` is what core `c`'s buffers hold when the region is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Input window 0's staging buffer holds its block at every point. -/
theorem before1_0_of {c : Dev nD} (dat : Dat τ (Elt F) Unit ℕ (UR sig nD τ) ℕ cfg1 c) (hA : dat.A 0 = W c (Proc.devRef .tc (Pipeline.arrRef spec1 0)))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before1_1_of {c : Dev nD} (dat : Dat τ (Elt F) Unit ℕ (UR sig nD τ) ℕ cfg1 c) (hA : dat.A 1 = W c (Proc.devRef .tc (Pipeline.arrRef spec1 1)))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before1_2_of {c : Dev nD} (dat : Dat τ (Elt F) Unit ℕ (UR sig nD τ) ℕ cfg1 c) (hA : dat.A 2 = W c (Proc.devRef .tc (Pipeline.arrRef spec1 2)))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before1_3_of {c : Dev nD} (dat : Dat τ (Elt F) Unit ℕ (UR sig nD τ) ℕ cfg1 c) (hA : dat.A 3 = W c (Proc.devRef .tc (Pipeline.arrRef spec1 3)))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before1_4_of {c : Dev nD} (dat : Dat τ (Elt F) Unit ℕ (UR sig nD τ) ℕ cfg1 c) (hA : dat.A 4 = W c (Proc.devRef .tc (Pipeline.arrRef spec1 4)))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before1_5_of {c : Dev nD} (dat : Dat τ (Elt F) Unit ℕ (UR sig nD τ) ℕ cfg1 c) (hA : dat.A 5 = W c (Proc.devRef .tc (Pipeline.arrRef spec1 5)))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before1_6_of {c : Dev nD} (dat : Dat τ (Elt F) Unit ℕ (UR sig nD τ) ℕ cfg1 c) (hA : dat.A 6 = W c (Proc.devRef .tc (Pipeline.arrRef spec1 6)))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before1_7_of {c : Dev nD} (dat : Dat τ (Elt F) Unit ℕ (UR sig nD τ) ℕ cfg1 c) (hA : dat.A 7 = W c (Proc.devRef .tc (Pipeline.arrRef spec1 7)))
    (hafter : ∀ t, dat.after 7 t = iblk W c 7 t) (t : Fin cfg1.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before1_8_of {c : Dev nD} (dat : Dat τ (Elt F) Unit ℕ (UR sig nD τ) ℕ cfg1 c) (hA : dat.A 8 = W c (Proc.devRef .tc (Pipeline.arrRef spec1 8)))
    (hafter : ∀ t, dat.after 8 t = iblk W c 8 t) (t : Fin cfg1.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before1_9_of {c : Dev nD} (dat : Dat τ (Elt F) Unit ℕ (UR sig nD τ) ℕ cfg1 c) (hA : dat.A 9 = W c (Proc.devRef .tc (Pipeline.arrRef spec1 9)))
    (hafter : ∀ t, dat.after 9 t = iblk W c 9 t) (t : Fin cfg1.N) (d) : dat.before 9 t d = iblk W c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before1_10_of {c : Dev nD} (dat : Dat τ (Elt F) Unit ℕ (UR sig nD τ) ℕ cfg1 c) (hA : dat.A 10 = W c (Proc.devRef .tc (Pipeline.arrRef spec1 10)))
    (hafter : ∀ t, dat.after 10 t = iblk W c 10 t) (t : Fin cfg1.N) (d) : dat.before 10 t d = iblk W c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before1_11_of {c : Dev nD} (dat : Dat τ (Elt F) Unit ℕ (UR sig nD τ) ℕ cfg1 c) (hA : dat.A 11 = W c (Proc.devRef .tc (Pipeline.arrRef spec1 11)))
    (hafter : ∀ t, dat.after 11 t = iblk W c 11 t) (t : Fin cfg1.N) (d) : dat.before 11 t d = iblk W c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- The branch is taken: the second grid coordinate is zero. -/
abbrev condA (i : grid1.Coords) : Prop := (Scalar.cmpi .ne (Scalar.extui (Scalar.cmpi .eq (BitVec.ofNat 32 (i 1).val) 0#32)) 0#32) = 1#1
/-- It is at the even points. -/
theorem hcondA : ∀ t : Fin cfg1.N, condA (grid1.coords t) ↔ t.val % 2 = 0 :=
  (fun t => by
    have ht : t.val < 16 := Nat.lt_of_lt_of_eq t.isLt N_1
    have e0 : (grid1.coords t 0).val = t.val / 2 % 8 := Pipeline.Grid.coords_val t 0 (by decide) rfl
    have e1 : (grid1.coords t 1).val = t.val / 1 % 2 := Pipeline.Grid.coords_val t 1 (by decide) rfl
    simp only [condA, e0, e1]
    word_cmp
   : ∀ t : Fin grid1.N, condA (grid1.coords t) ↔ t.val % 2 = 0)

/-! ## The kernel body on any staging memrefs: a subtype the run finds -/

/-- One staging buffer of the output's window, through which its contents are stated. -/
abbrev VO1 : View sig .tc .vmem S1x128x128x128 .f32 := (Memref.whole cc1_stg12_0 : Memref sig .tc .vmem S1x128x128x128 .f32).view
/-- Each window's staging memref at point `t`, and its wholeness. -/
abbrev ms1_0 (t : Fin cfg1.N) : Memref sig .tc .vmem S1x256x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x16 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x2048 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S16x128 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x128x128x128 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S16x128x128 .bf16 := Memref.whole cc1_scratch0
abbrev scM1_1 : Memref sig .tc .vmem S16x128x128 .bf16 := Memref.whole cc1_scratch1
/-- The second scratch, which the body carries from an even point to the next, as a view. -/
abbrev VS1 : View sig .tc .vmem S16x128x128 .bf16 := scM1_1.view

end Cert.KernelIdeal.Hand

end
-- ==== Proof.Ideal.RunA.lean ====
/-
  One run of the enhancement body, its branch taken.
-/
module

public import proofs.«01_k».proof.Proof.Ideal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1332000 in
/-- The body where its branch is taken, on whole staging memrefs whose inputs hold `x0 … x11`: what its stores leave in
    the output and in the scratch buffers, as pieces (last first), with the triple of the body that leaves them. -/
noncomputable def kernelRun1_A (c : Dev nD) (i : grid1.Coords) (arg2 : Memref sig .tc .vmem S1x256x128x128 .f32) (harg2 : arg2.IsWhole) (arg3 : Memref sig .tc .vmem S16x256 .f32) (harg3 : arg3.IsWhole) (arg4 : Memref sig .tc .vmem S128x16 .f32) (harg4 : arg4.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg12 : Memref sig .tc .vmem S1024x128 .f32) (harg12 : arg12.IsWhole) (arg13 : Memref sig .tc .vmem S16x128 .bf16) (harg13 : arg13.IsWhole) (arg14 : Memref sig .tc .vmem S1x128x128x128 .f32) (harg14 : arg14.IsWhole) (arg15 : Memref sig .tc .vmem S16x128x128 .bf16) (harg15 : arg15.IsWhole) (arg16 : Memref sig .tc .vmem S16x128x128 .bf16) (harg16 : arg16.IsWhole) (hc0 : condA i)
    (x0 : Vec F S1x256x128x128 .f32) (x1 : Vec F S16x256 .f32) (x2 : Vec F S128x16 .f32) (x3 : Vec F S16x128x128 .f32) (x4 : Vec F S128x128 .bf16) (x5 : Vec F S128x128 .bf16) (x6 : Vec F S128x128 .bf16) (x7 : Vec F S128x128 .bf16) (x8 : Vec F S128x16 .f32) (x9 : Vec F S256x2048 .bf16) (x10 : Vec F S1024x128 .f32) (x11 : Vec F S16x128 .bf16) :
    Σ' (L12 : List (View.Piece (Elt F) S1x128x128x128 .f32)), Σ' (LS1 : List (View.Piece (Elt F) S16x128x128 .bf16)), { LT0 : List (View.Piece (Elt F) S16x128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LS1)) -∗ K ⟨⟩))
          ⊢ wp frame (wpE (defs₀ (F := F)) Variants.none c none) E (cc1_afe_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc1_afe_main_eq_skeleton]; unfold cc1_afe_main_skel
    simp only [k1_part20_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part21_eq_skeleton, k1_part22_eq_skeleton, k1_part23_eq_skeleton, k1_part24_eq_skeleton, k1_part25_eq_skeleton, k1_part26_eq_skeleton, k1_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]; · iexists _; iexact HS0
    iexists _; iexact HS1

end Cert.KernelIdeal.Hand

end
-- ==== Proof.Ideal.RunB.lean ====
/-
  One run of the enhancement body, its branch not taken.
-/
module

public import proofs.«01_k».proof.Proof.Ideal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where its branch is not taken, on whole staging memrefs whose inputs hold `x0 … x11`: what its stores leave in
    the output and in the scratch buffers, as pieces (last first), with the triple of the body that leaves them. -/
noncomputable def kernelRun1_B (c : Dev nD) (i : grid1.Coords) (arg2 : Memref sig .tc .vmem S1x256x128x128 .f32) (harg2 : arg2.IsWhole) (arg3 : Memref sig .tc .vmem S16x256 .f32) (harg3 : arg3.IsWhole) (arg4 : Memref sig .tc .vmem S128x16 .f32) (harg4 : arg4.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg12 : Memref sig .tc .vmem S1024x128 .f32) (harg12 : arg12.IsWhole) (arg13 : Memref sig .tc .vmem S16x128 .bf16) (harg13 : arg13.IsWhole) (arg14 : Memref sig .tc .vmem S1x128x128x128 .f32) (harg14 : arg14.IsWhole) (arg15 : Memref sig .tc .vmem S16x128x128 .bf16) (harg15 : arg15.IsWhole) (arg16 : Memref sig .tc .vmem S16x128x128 .bf16) (harg16 : arg16.IsWhole) (hc0 : ¬condA i)
    (x0 : Vec F S1x256x128x128 .f32) (x1 : Vec F S16x256 .f32) (x2 : Vec F S128x16 .f32) (x3 : Vec F S16x128x128 .f32) (x4 : Vec F S128x128 .bf16) (x5 : Vec F S128x128 .bf16) (x6 : Vec F S128x128 .bf16) (x7 : Vec F S128x128 .bf16) (x8 : Vec F S128x16 .f32) (x9 : Vec F S256x2048 .bf16) (x10 : Vec F S1024x128 .f32) (x11 : Vec F S16x128 .bf16) (xs1 : Vec F S16x128x128 .bf16) :
    Σ' (L12 : List (View.Piece (Elt F) S1x128x128x128 .f32)), Σ' (LS1 : List (View.Piece (Elt F) S16x128x128 .bf16)), { LT0 : List (View.Piece (Elt F) S16x128x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ d, owns (c : Thread nD τ) arg15 fullShare d) ∗ owns (c : Thread nD τ) arg16 fullShare xs1) -∗ K ⟨⟩))
          ⊢ wp frame (wpE (defs₀ (F := F)) Variants.none c none) E (cc1_afe_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], fun E K => ?run⟩
  case run =>
    simp only [cc1_afe_main_eq_skeleton]; unfold cc1_afe_main_skel
    simp only [k1_part20_eq_skeleton, k1_part21_eq_skeleton, k1_part22_eq_skeleton, k1_part23_eq_skeleton, k1_part24_eq_skeleton, k1_part25_eq_skeleton, k1_part26_eq_skeleton, k1_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]
    · iexists _, _; isplitr; swap; · iexact HS0
      ipureintro; rfl
    iexists _; isplitr; · ipureintro; exact harg16.read_unread _
    iexact HS1

end Cert.KernelIdeal.Hand

end
-- ==== Proof.Ideal.Body.lean ====
/-
  The enhancement call's proof data and its body's obligation at every point of the grid.
  The second scratch carries the inverse transform's rows from an even point, which fills it, to the next, which only
  reads it: `yAt`.
-/
module

public import proofs.«01_k».proof.Proof.Ideal.RunA
public import proofs.«01_k».proof.Proof.Ideal.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The run at an even point, on the point's memrefs and blocks; -/
abbrev runA (c : Dev nD) (t : Fin cfg1.N) (h : t.val % 2 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcondA t).mpr h) (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t)
/-- and at an odd point, the carried scratch at `xs`. -/
abbrev runB (c : Dev nD) (t : Fin cfg1.N) (h : ¬t.val % 2 = 0) (xs : Vec F S16x128x128 .bf16) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun g => h ((hcondA t).mp g)) (iblk W c 0 t) (iblk W c 1 t) (iblk W c 2 t) (iblk W c 3 t) (iblk W c 4 t) (iblk W c 5 t) (iblk W c 6 t) (iblk W c 7 t) (iblk W c 8 t) (iblk W c 9 t) (iblk W c 10 t) (iblk W c 11 t) xs

/-- The pieces of each run tile what they are stored into. -/
theorem coverA (c : Dev nD) (t : Fin cfg1.N) (h : t.val % 2 = 0) (y : S1x128x128x128.Idx) : ∃ pc ∈ (runA W c t h).1, y ∈ pc.1.set :=
  View.cover_of_tiledL (runA W c t h).1 S1x128x8x128.size (by sl_kernel_rfl) y
theorem scoverA (c : Dev nD) (t : Fin cfg1.N) (h : t.val % 2 = 0) (y : S16x128x128.Idx) : ∃ pc ∈ (runA W c t h).2.1, y ∈ pc.1.set :=
  View.cover_of_tiledL (runA W c t h).2.1 S1x128x128.size (by sl_kernel_rfl) y
theorem coverB (c : Dev nD) (t : Fin cfg1.N) (h : ¬t.val % 2 = 0) (xs : Vec F S16x128x128 .bf16) (y : S1x128x128x128.Idx) :
    ∃ pc ∈ (runB W c t h xs).1, y ∈ pc.1.set :=
  View.cover_of_tiledL (runB W c t h xs).1 S1x128x8x128.size (by sl_kernel_rfl) y

/-- What an even point leaves in the output's buffer and in the carried scratch; -/
def outA (c : Dev nD) (t : Fin cfg1.N) (h : t.val % 2 = 0) : Vec F S1x128x128x128 .f32 :=
  VO1.read (Elt F) (VO1.writes (Elt F) VO1.junk (runA W c t h).1)
def yA (c : Dev nD) (t : Fin cfg1.N) (h : t.val % 2 = 0) : Vec F S16x128x128 .bf16 :=
  VS1.read (Elt F) (VS1.writes (Elt F) VS1.junk (runA W c t h).2.1)
/-- and what an odd one leaves in the output's. -/
def outB (c : Dev nD) (t : Fin cfg1.N) (h : ¬t.val % 2 = 0) (xs : Vec F S16x128x128 .bf16) : Vec F S1x128x128x128 .f32 :=
  VO1.read (Elt F) (VO1.writes (Elt F) VO1.junk (runB W c t h xs).1)

/-- The last even point at or before position `n`. -/
def evenPt (n : ℕ) : Fin cfg1.N := ⟨2 * (n / 2) % 16, lt_of_lt_of_eq (Nat.mod_lt _ (by decide)) N_1.symm⟩
theorem evenPt_even (n : ℕ) : (evenPt n).val % 2 = 0 := by
  show (2 * (n / 2) % 16) % 2 = 0; omega
theorem evenPt_of_even (t : Fin cfg1.N) (h : t.val % 2 = 0) : evenPt t.val = t := by
  have ht : t.val < 16 := lt_of_lt_of_eq t.isLt N_1
  apply Fin.ext; show 2 * (t.val / 2) % 16 = t.val; omega
theorem evenPt_of_odd (n : ℕ) (h : ¬n % 2 = 0) : evenPt (n - 1) = evenPt n := by
  apply Fin.ext; show 2 * ((n - 1) / 2) % 16 = 2 * (n / 2) % 16; omega

/-- What the carried scratch holds after position `n`; -/
def yAt (c : Dev nD) (n : ℕ) : Vec F S16x128x128 .bf16 := yA W c (evenPt n) (evenPt_even n)
theorem yAt_of_even (c : Dev nD) (t : Fin cfg1.N) (h : t.val % 2 = 0) : yAt W c t.val = yA W c t h := by
  have e := evenPt_of_even t h
  unfold yAt; congr
theorem yAt_of_odd (c : Dev nD) (n : ℕ) (h : ¬n % 2 = 0) : yAt W c (n - 1) = yAt W c n := by
  have e := evenPt_of_odd n h
  unfold yAt; congr
/-- and what the output's buffer holds after point `t`. -/
def outAt (c : Dev nD) (t : Fin cfg1.N) : Vec F S1x128x128x128 .f32 :=
  if h : t.val % 2 = 0 then outA W c t h else outB W c t h (yAt W c t.val)
theorem outAt_of_even (c : Dev nD) (t : Fin cfg1.N) (h : t.val % 2 = 0) : outAt W c t = outA W c t h := dif_pos h
theorem outAt_of_odd (c : Dev nD) (t : Fin cfg1.N) (h : ¬t.val % 2 = 0) : outAt W c t = outB W c t h (yAt W c t.val) := dif_neg h

/-- The other call's staging buffers, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The invariant with both scratch buffers at anything. -/
def PhiA (c : Dev nD) : sProp 𝕄 :=
  iprop(others c ∗ (∃ d, owns (c : Thread nD τ) scM1_0 fullShare d) ∗ (∃ d, owns (c : Thread nD τ) scM1_1 fullShare d) ∗ (∃ r, prngReg c r))

/-- The invariant before position `n`: from the second position on the carried scratch is at what the position before left. -/
def PhiS (c : Dev nD) (n : ℕ) : sProp 𝕄 :=
  if n = 0 then PhiA c
  else iprop(others c ∗ (∃ d, owns (c : Thread nD τ) scM1_0 fullShare d) ∗ owns (c : Thread nD τ) scM1_1 fullShare (yAt W c (n - 1)) ∗ (∃ r, prngReg c r))
theorem PhiS_succ (c : Dev nD) (n : ℕ) :
    PhiS W c (n + 1) = iprop(others c ∗ (∃ d, owns (c : Thread nD τ) scM1_0 fullShare d) ∗ owns (c : Thread nD τ) scM1_1 fullShare (yAt W c n) ∗ (∃ r, prngReg c r)) :=
  if_neg (Nat.succ_ne_zero n)
theorem PhiS_pos (c : Dev nD) (n : ℕ) (h : n ≠ 0) :
    PhiS W c n = iprop(others c ∗ (∃ d, owns (c : Thread nD τ) scM1_0 fullShare d) ∗ owns (c : Thread nD τ) scM1_1 fullShare (yAt W c (n - 1)) ∗ (∃ r, prngReg c r)) :=
  if_neg h
theorem PhiS_forget (c : Dev nD) (n : ℕ) : PhiS W c n ⊢ PhiA c := by
  unfold PhiS
  split
  · exact .rfl
  · unfold PhiA
    iintro ⟨Ho, H0, H1, Hg⟩
    isplitl [Ho]; · iexact Ho
    isplitl [H0]; · iexact H0
    isplitl [H1]; · iexists _; iexact H1
    iexact Hg

/-- The scoped buffers no window stages, with the generator's register, are the invariant before the first point; -/
theorem phi_in (c : Dev nD) : iprop(Pipeline.scopedRest spec1 c ∗ (∃ r, prngReg c r)) ⊢ (PhiA c : sProp 𝕄) := by
  unfold PhiA others
  simp only [scM1_0, scM1_1, owns_whole]
  rw [scopedRest1_eq]
  iintro ⟨⟨H0, H1, H2, HS0, HS1⟩, Hg⟩
  isplitl [H0 H1 H2]
  · isplitl [H0]; · iexact H0
    isplitl [H1]; · iexact H1
    iexact H2
  isplitl [HS0]; · iexact HS0
  isplitl [HS1]; · iexact HS1
  iexact Hg
/-- and come back from it. -/
theorem phi_out (c : Dev nD) : (PhiA c : sProp 𝕄) ⊢ iprop(Pipeline.scopedRest spec1 c ∗ (∃ r, prngReg c r)) := by
  unfold PhiA others
  simp only [scM1_0, scM1_1, owns_whole]
  rw [scopedRest1_eq]
  iintro ⟨⟨H0, H1, H2⟩, HS0, HS1, Hg⟩
  isplitl [H0 H1 H2 HS0 HS1]
  · isplitl [H0]; · iexact H0
    isplitl [H1]; · iexact H1
    isplitl [H2]; · iexact H2
    isplitl [HS0]; · iexact HS0
    iexact HS1
  iexact Hg

/-- The proof data of the enhancement call: the arrays as the region finds them; after the body each input's buffer at its
    block and the output's at `outAt`; the invariant `PhiS`; nothing owed; full shares. -/
def dat1 (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => iblk W c 11 t
    | ⟨12, _⟩ => outAt W c t
  Φ t := PhiS W c t.val
  q _ := fullShare
  owed _ := 0

theorem dat1_A (c : Dev nD) (w : Fin cfg1.W) : (dat1 W c).A w = W c (Proc.devRef .tc (Pipeline.arrRef spec1 w)) := by
  dsimp only [dat1]
theorem dat1_Phi (c : Dev nD) (t : Fin (cfg1.N + 1)) : (dat1 W c).Φ t = PhiS W c t.val := by dsimp only [dat1]
theorem after1_0 (c : Dev nD) (t : Fin cfg1.N) : (dat1 W c).after 0 t = iblk W c 0 t := by dsimp only [dat1]
theorem after1_1 (c : Dev nD) (t : Fin cfg1.N) : (dat1 W c).after 1 t = iblk W c 1 t := by dsimp only [dat1]
theorem after1_2 (c : Dev nD) (t : Fin cfg1.N) : (dat1 W c).after 2 t = iblk W c 2 t := by dsimp only [dat1]
theorem after1_3 (c : Dev nD) (t : Fin cfg1.N) : (dat1 W c).after 3 t = iblk W c 3 t := by dsimp only [dat1]
theorem after1_4 (c : Dev nD) (t : Fin cfg1.N) : (dat1 W c).after 4 t = iblk W c 4 t := by dsimp only [dat1]
theorem after1_5 (c : Dev nD) (t : Fin cfg1.N) : (dat1 W c).after 5 t = iblk W c 5 t := by dsimp only [dat1]
theorem after1_6 (c : Dev nD) (t : Fin cfg1.N) : (dat1 W c).after 6 t = iblk W c 6 t := by dsimp only [dat1]
theorem after1_7 (c : Dev nD) (t : Fin cfg1.N) : (dat1 W c).after 7 t = iblk W c 7 t := by dsimp only [dat1]
theorem after1_8 (c : Dev nD) (t : Fin cfg1.N) : (dat1 W c).after 8 t = iblk W c 8 t := by dsimp only [dat1]
theorem after1_9 (c : Dev nD) (t : Fin cfg1.N) : (dat1 W c).after 9 t = iblk W c 9 t := by dsimp only [dat1]
theorem after1_10 (c : Dev nD) (t : Fin cfg1.N) : (dat1 W c).after 10 t = iblk W c 10 t := by dsimp only [dat1]
theorem after1_11 (c : Dev nD) (t : Fin cfg1.N) : (dat1 W c).after 11 t = iblk W c 11 t := by dsimp only [dat1]
theorem after1_12 (c : Dev nD) (t : Fin cfg1.N) : (dat1 W c).after 12 t = outAt W c t := by dsimp only [dat1]
theorem before1_0 (c : Dev nD) (t : Fin cfg1.N) (d) : (dat1 W c).before 0 t d = iblk W c 0 t :=
  before1_0_of W (dat1 W c) (dat1_A W c 0) (after1_0 W c) t d
theorem before1_1 (c : Dev nD) (t : Fin cfg1.N) (d) : (dat1 W c).before 1 t d = iblk W c 1 t :=
  before1_1_of W (dat1 W c) (dat1_A W c 1) (after1_1 W c) t d
theorem before1_2 (c : Dev nD) (t : Fin cfg1.N) (d) : (dat1 W c).before 2 t d = iblk W c 2 t :=
  before1_2_of W (dat1 W c) (dat1_A W c 2) (after1_2 W c) t d
theorem before1_3 (c : Dev nD) (t : Fin cfg1.N) (d) : (dat1 W c).before 3 t d = iblk W c 3 t :=
  before1_3_of W (dat1 W c) (dat1_A W c 3) (after1_3 W c) t d
theorem before1_4 (c : Dev nD) (t : Fin cfg1.N) (d) : (dat1 W c).before 4 t d = iblk W c 4 t :=
  before1_4_of W (dat1 W c) (dat1_A W c 4) (after1_4 W c) t d
theorem before1_5 (c : Dev nD) (t : Fin cfg1.N) (d) : (dat1 W c).before 5 t d = iblk W c 5 t :=
  before1_5_of W (dat1 W c) (dat1_A W c 5) (after1_5 W c) t d
theorem before1_6 (c : Dev nD) (t : Fin cfg1.N) (d) : (dat1 W c).before 6 t d = iblk W c 6 t :=
  before1_6_of W (dat1 W c) (dat1_A W c 6) (after1_6 W c) t d
theorem before1_7 (c : Dev nD) (t : Fin cfg1.N) (d) : (dat1 W c).before 7 t d = iblk W c 7 t :=
  before1_7_of W (dat1 W c) (dat1_A W c 7) (after1_7 W c) t d
theorem before1_8 (c : Dev nD) (t : Fin cfg1.N) (d) : (dat1 W c).before 8 t d = iblk W c 8 t :=
  before1_8_of W (dat1 W c) (dat1_A W c 8) (after1_8 W c) t d
theorem before1_9 (c : Dev nD) (t : Fin cfg1.N) (d) : (dat1 W c).before 9 t d = iblk W c 9 t :=
  before1_9_of W (dat1 W c) (dat1_A W c 9) (after1_9 W c) t d
theorem before1_10 (c : Dev nD) (t : Fin cfg1.N) (d) : (dat1 W c).before 10 t d = iblk W c 10 t :=
  before1_10_of W (dat1 W c) (dat1_A W c 10) (after1_10 W c) t d
theorem before1_11 (c : Dev nD) (t : Fin cfg1.N) (d) : (dat1 W c).before 11 t d = iblk W c 11 t :=
  before1_11_of W (dat1 W c) (dat1_A W c 11) (after1_11 W c) t d

/-- What the body takes at point `t`, window by window, -/
def bodyPre (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d))
    ∗ (∃ d, owns (c : Thread nD τ) (ms1_6 t) fullShare ((dat1 W c).before 6 t d))
    ∗ (∃ d, owns (c : Thread nD τ) (ms1_7 t) fullShare ((dat1 W c).before 7 t d))
    ∗ (∃ d, owns (c : Thread nD τ) (ms1_8 t) fullShare ((dat1 W c).before 8 t d))
    ∗ (∃ d, owns (c : Thread nD τ) (ms1_9 t) fullShare ((dat1 W c).before 9 t d))
    ∗ (∃ d, owns (c : Thread nD τ) (ms1_10 t) fullShare ((dat1 W c).before 10 t d))
    ∗ (∃ d, owns (c : Thread nD τ) (ms1_11 t) fullShare ((dat1 W c).before 11 t d))
    ∗ (∃ d, owns (c : Thread nD τ) (ms1_12 t) fullShare ((dat1 W c).before 12 t d)))
/-- and what it gives back. -/
def bodyPost (c : Dev nD) (t : Fin cfg1.N) : sProp 𝕄 :=
  iprop((dat1 W c).Φ t.succ ∗ (dat1 W c).owesAt () t.succ
    ∗ owns (c : Thread nD τ) (ms1_0 t) fullShare ((dat1 W c).after 0 t)
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t)
    ∗ owns (c : Thread nD τ) (ms1_5 t) fullShare ((dat1 W c).after 5 t)
    ∗ owns (c : Thread nD τ) (ms1_6 t) fullShare ((dat1 W c).after 6 t)
    ∗ owns (c : Thread nD τ) (ms1_7 t) fullShare ((dat1 W c).after 7 t)
    ∗ owns (c : Thread nD τ) (ms1_8 t) fullShare ((dat1 W c).after 8 t)
    ∗ owns (c : Thread nD τ) (ms1_9 t) fullShare ((dat1 W c).after 9 t)
    ∗ owns (c : Thread nD τ) (ms1_10 t) fullShare ((dat1 W c).after 10 t)
    ∗ owns (c : Thread nD τ) (ms1_11 t) fullShare ((dat1 W c).after 11 t)
    ∗ owns (c : Thread nD τ) (ms1_12 t) fullShare ((dat1 W c).after 12 t))

set_option maxHeartbeats 9600000 in
/-- The body at any point takes the one to the other. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7, before1_8, before1_9, before1_10, before1_11]
  rw [show (dat1 W c).owesAt () t.succ = (dat1 W c).owesAt () t.castSucc from rfl,
    after1_0, after1_1, after1_2, after1_3, after1_4, after1_5, after1_6, after1_7, after1_8, after1_9, after1_10, after1_11, after1_12]
  rw [dat1_Phi, dat1_Phi, Fin.val_castSucc, Fin.val_succ, PhiS_succ]
  by_cases h0 : t.val % 2 = 0
  · refine (sep_mono (PhiS_forget W c t.val) .rfl).trans ?_
    rw [outAt_of_even W c t h0, yAt_of_even W c t h0]
    unfold PhiA outA yA
    iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA W c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, ⟨%fT0, HS0⟩, ⟨%es1, HS1⟩⟩
    isplitl [Hr HS0 HS1 Hg]
    · isplitl [Hr]; · iexact Hr
      isplitl [HS0]
      · iexists _; unfold owns; iexists _; isplitr
        swap; · iexact HS0
        ipureintro; rfl
      isplitl [HS1]
      · unfold owns; iexists _; isplitr
        swap; · iexact HS1
        ipureintro; exact View.read_writes_of_cover _ _ _ _ _ (scoverA W c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverA W c t h0)
  · have hz : t.val ≠ 0 := fun h => h0 (by rw [h])
    rw [PhiS_pos W c _ hz, outAt_of_odd W c t h0, yAt_of_odd W c t.val h0]
    unfold outB
    iintro ⟨⟨Hr, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB W c t h0 _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (coverB W c t h0 _)

/-- The body table's row at point `t` is the body there. -/
theorem row1 (t : Fin cfg1.N) : defs₀ (F := F) .tc cfg1.body (cfg1.bodyArgs t (cfg1.slots t)) = bodyAt1 t := by
  unfold defs₀; rw [Defs.onTc_tc]

/-- The library's obligation. -/
theorem obligation1 (c : Dev nD) : BodyObligation (dat1 (F := F) W c) (defs₀ (F := F)) Variants.none () Set.univ := fun t => by
  rw [bigSep_W1, bigSep_W1, row1]
  exact triple_restated (sound_body W c t) rfl .rfl fun _ => .rfl

end Cert.KernelIdeal.Hand

end
-- ==== Proof.Ideal.Gain.lean ====
/-
  The gain call: a gridless body that multiplies the packed bin weights with the basis and stores the product as
  sixteen 128 × 128 planes. Its run, its proof data and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The body on whole staging memrefs whose inputs hold `x0` and `x1`: what it stores, as pieces, with its triple. -/
noncomputable def kernelRun0 (c : Dev nD) (arg0 : Memref sig .tc .vmem S16x72 .f32) (harg0 : arg0.IsWhole) (arg1 : Memref sig .tc .vmem S72x16384 .f32) (harg1 : arg1.IsWhole) (arg2 : Memref sig .tc .vmem S16x128x128 .f32) (harg2 : arg2.IsWhole)
    (x0 : Vec F S16x72 .f32) (x1 : Vec F S72x16384 .f32) :
    { L2 : List (View.Piece (Elt F) S16x128x128 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2)) -∗ K ⟨⟩))
          ⊢ wp frame (wpE (defs₀ (F := F)) Variants.none c none) E (cc0_afe_gain arg0 harg0 arg1 harg1 arg2 harg2) K } := by
  refine ⟨?_, fun E K => ?run⟩
  case run =>
    simp only [cc0_afe_gain_eq_skeleton]; unfold cc0_afe_gain_skel
    unfold owns
    iintro ⟨⟨%f0, %hf0, H0⟩, ⟨%f1, %hf1, H1⟩, ⟨%d2, %f2, -, H2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    iexists _; iexact H2

/-- Each window's staging memref, and its wholeness. -/
abbrev ms0_0 (t : Fin cfg0.N) : Memref sig .tc .vmem S16x72 .f32 := win0_0.stage (cfg0.slots t 0)
abbrev hs0_0 (t : Fin cfg0.N) : (ms0_0 t).IsWhole := hstage0_0 0
abbrev ms0_1 (t : Fin cfg0.N) : Memref sig .tc .vmem S72x16384 .f32 := win0_1.stage (cfg0.slots t 1)
abbrev hs0_1 (t : Fin cfg0.N) : (ms0_1 t).IsWhole := hstage0_1 0
abbrev ms0_2 (t : Fin cfg0.N) : Memref sig .tc .vmem S16x128x128 .f32 := win0_2.stage (cfg0.slots t 2)
abbrev hs0_2 (t : Fin cfg0.N) : (ms0_2 t).IsWhole := hstage0_2 0
/-- The output's staging buffer, through which its contents are stated. -/
abbrev VO0 : View sig .tc .vmem S16x128x128 .f32 := (Memref.whole cc0_stg2_0 : Memref sig .tc .vmem S16x128x128 .f32).view

/-- Window `w`'s block, read off its array as the region finds it. -/
def gblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The run at the one point. -/
abbrev run0 (c : Dev nD) (t : Fin cfg0.N) :=
  kernelRun0 c (ms0_0 t) (hs0_0 t) (ms0_1 t) (hs0_1 t) (ms0_2 t) (hs0_2 t) (gblk W c 0 t) (gblk W c 1 t)
theorem cover0 (c : Dev nD) (t : Fin cfg0.N) (y : S16x128x128.Idx) : ∃ pc ∈ (run0 W c t).1, y ∈ pc.1.set :=
  View.cover_of_tiledL (run0 W c t).1 S16x128x128.size (by sl_kernel_rfl) y
/-- What the body leaves in the output's buffer. -/
def out0 (c : Dev nD) (t : Fin cfg0.N) : Vec F S16x128x128 .f32 :=
  VO0.read (Elt F) (VO0.writes (Elt F) VO0.junk (run0 W c t).1)

/-- The proof data of the gain call. -/
def dat0 (c : Dev nD) : Dat τ (Elt F) Unit ℕ (UR sig nD τ) ℕ cfg0 c where
  A w := W c (Proc.devRef .tc (Pipeline.arrRef spec0 w))
  after w t := match w with
    | ⟨0, _⟩ => gblk W c 0 t
    | ⟨1, _⟩ => gblk W c 1 t
    | ⟨2, _⟩ => out0 W c t
  Φ _ := Pipeline.ΦA spec0 c
  q _ := fullShare
  owed _ := 0

theorem dat0_A (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = gblk W c 0 t := by dsimp only [dat0]
theorem after0_1 (c : Dev nD) (t : Fin cfg0.N) : (dat0 W c).after 1 t = gblk W c 1 t := by dsimp only [dat0]
theorem after0_2 (c : Dev nD) (t : Fin cfg0.N) : (dat0 W c).after 2 t = out0 W c t := by dsimp only [dat0]
theorem before0_0 (c : Dev nD) (t : Fin cfg0.N) (d) : (dat0 W c).before 0 t d = gblk W c 0 t :=
  ((dat0 W c).before_in_eq_fetched 0 rfl (fun _ => rfl) (fun _ _ _ => rfl) (fun t => by rw [after0_0]; unfold Dat.blockOf gblk; rw [dat0_A]; try rfl) t d).trans
    (by unfold Dat.fetched Dat.blockOf gblk; rw [dat0_A]; try rfl)
theorem before0_1 (c : Dev nD) (t : Fin cfg0.N) (d) : (dat0 W c).before 1 t d = gblk W c 1 t :=
  ((dat0 W c).before_in_eq_fetched 1 rfl (fun _ => rfl) (fun _ _ _ => rfl) (fun t => by rw [after0_1]; unfold Dat.blockOf gblk; rw [dat0_A]; try rfl) t d).trans
    (by unfold Dat.fetched Dat.blockOf gblk; rw [dat0_A]; try rfl)

/-- What the body takes, window by window, -/
def gainPre (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d)))
/-- and what it gives back. -/
def gainPost (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t))

theorem sound_gain (c : Dev nD) (t : Fin cfg0.N) :
    gainPre W c t ⊢ wp frame (wpE (defs₀ (F := F)) Variants.none c none) Set.univ (bodyAt0 t) (fun _ => gainPost W c t) := by
  unfold gainPre gainPost bodyAt0
  simp only [before0_0, before0_1]
  rw [show (dat0 W c).owesAt () t.succ = (dat0 W c).owesAt () t.castSucc from rfl,
    show (dat0 W c).Φ t.succ = (dat0 W c).Φ t.castSucc from rfl, after0_0, after0_1, after0_2]
  unfold out0
  iintro ⟨Hg, Ho, ⟨%d0, H0⟩, ⟨%d1, H1⟩, ⟨%d2, H2⟩⟩
  iapply ((run0 W c t).2 Set.univ _)
  isplitl [H0]; · iexact H0
  isplitl [H1]; · iexact H1
  isplitl [H2]; · iexists _; iexact H2
  iintro ⟨H0, H1, ⟨%e2, H2⟩⟩
  isplitl [Hg]; · iexact Hg
  isplitl [Ho]; · iexact Ho
  isplitl [H0]; · iexact H0
  isplitl [H1]; · iexact H1
  unfold owns; iexists _; isplitr
  swap; · iexact H2
  ipureintro; exact View.read_writes_of_cover _ _ _ _ _ (cover0 W c t)

theorem row0 (t : Fin cfg0.N) : defs₀ (F := F) .tc cfg0.body (cfg0.bodyArgs t (cfg0.slots t)) = bodyAt0 t := by
  unfold defs₀; rw [Defs.onTc_tc]

/-- The library's obligation. -/
theorem obligation0 (c : Dev nD) : BodyObligation (dat0 (F := F) W c) (defs₀ (F := F)) Variants.none () Set.univ := fun t => by
  rw [bigSep_W0, bigSep_W0, row0]
  exact triple_restated (sound_gain W c t) rfl .rfl fun _ => .rfl

end Cert.KernelIdeal.Hand

end
-- ==== Proof.Ideal.Run.lean ====
/-
  The whole program's run: the host operations, the gain call, the enhancement call. Between two of them core `c` holds
  every buffer that outlives a call at a known valuation: as launched, after each stretch of host operations, and after
  each call (`Pipeline.afterRegion`). From it: the arguments end as launched, and the result is what the library
  computes from the enhancement call's proof data.
-/
module

public import proofs.«01_k».proof.Proof.Ideal.Body
public import proofs.«01_k».proof.Proof.Ideal.Gain
public import proofs.«01_k».proof.Proof.Gen.KernelIdeal.Regions
public import Idealize.ShloMosaic.Lib.Pipeline.RegionArraysS
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The buffers when the gain call is entered, -/
def U0 (c : Dev nD) : Valuation τ sig (Elt F) := V13 m c
/-- when the enhancement call is entered, -/
def U1 (c : Dev nD) : Valuation τ sig (Elt F) := Pipeline.afterRegion (dat0 (U0 m) c) (U0 m c)
/-- and at the end. -/
def U2 (c : Dev nD) : Valuation τ sig (Elt F) := Pipeline.afterRegion (dat1 (U1 m) c) (U1 m c)

/-- The two calls' proof data. -/
def pdats : (p : Fin 2) → (c : Dev nD) → Dat τ (Elt F) Unit ℕ (UR sig nD τ) ℕ (cfgs p) c
  | ⟨0, _⟩ => fun c => dat0 (U0 m) c
  | ⟨1, _⟩ => fun c => dat1 (U1 m) c

/-- One level, the staging waits'; no core owes another anything. -/
def lvls (g : GSem nD τ sig) : Finset Unit := if g.1.2 = .tc then {()} else ∅
abbrev lev (_ : GSem nD τ sig) (_ : Unit) : ℕ := 0
abbrev owed0 (_ : Dev nD) : CellTallies nD τ sig Unit := 0

theorem cut (p : Fin 2) : Pipeline.LevelCut (pcfgs (F := F)) adm () lvls lev p owed0 (fun _ => 0) where
  hι c w s := by unfold lvls; rw [if_pos rfl]; exact Finset.mem_singleton_self _
  hιb _ _ _ := Nat.le_refl _
  hD c g i h := absurd h (Nat.lt_irrefl 0)

/-- What rides beside the buffers: what the core owes, and the generator's register. -/
abbrev ride (c : Dev nD) : sProp 𝕄 :=
  iprop((∃ Wd, owes (c : Thread nD τ) (owed0 c) Wd) ∗ (∃ r, prngReg c r) ∗ emp)

set_option backward.isDefEq.respectTransparency.types false in
/-- The gain call's region. -/
def reg0 : RegionSeg (pcfgs (F := F)) adm (pdats m) () defs₀ Variants.none lvls lev 0 :=
  RegionSeg.ofHeldIn (pcfgs (F := F)) adm (pdats m) () defs₀ Variants.none lvls lev 0 owed0 (Pipeline.ucRefs τ sig)
    (fun c => iprop(∃ r, prngReg c r)) (fun c => iprop(∃ r, prngReg c r)) launch0.toP rfl
    (fun c => (obligation0 (U0 m) c).loose) (fun _ _ => rfl) (fun _ => rfl) (fun c => (dat0 (U0 m) c).share_full fun _ => rfl)
    (fun c => .rfl) (fun c => .rfl) (fun _ => 0) (cut 0) (fun _ => iprop(emp)) (U0 m)
    (fun c w => dat0_A (U0 m) c w)

theorem phi_last (W : Dev nD → Valuation τ sig (Elt F)) (c : Dev nD) :
    (dat1 W c).Φ (Fin.last cfg1.N) ⊢ iprop(Pipeline.scopedRest spec1 c ∗ (∃ r, prngReg c r)) :=
  (Entails.of_eq (dat1_Phi W c _)).trans ((PhiS_forget W c _).trans (phi_out c))

set_option backward.isDefEq.respectTransparency.types false in
/-- The enhancement call's region. -/
def reg1 : RegionSeg (pcfgs (F := F)) adm (pdats m) () defs₀ Variants.none lvls lev 1 :=
  RegionSeg.ofHeldIn (pcfgs (F := F)) adm (pdats m) () defs₀ Variants.none lvls lev 1 owed0 (Pipeline.ucRefs τ sig)
    (fun c => iprop(∃ r, prngReg c r)) (fun c => iprop(∃ r, prngReg c r)) launch1.toP rfl
    (fun c => (obligation1 (U1 m) c).loose) (fun _ _ => rfl) (fun _ => rfl) (fun c => (dat1 (U1 m) c).share_full fun _ => rfl)
    (fun c => phi_in c) (fun c => phi_last (U1 m) c) (fun _ => 0) (cut 1) (fun _ => iprop(emp)) (U1 m)
    (fun c w => dat1_A (U1 m) c w)

theorem sub0 : Pipeline.arrRefs (τ := τ) (pcfgs (F := F) 0).spec ⊆ Pipeline.ucRefs τ sig :=
  Pipeline.arrRefs_sub_ucRefs _ launch0.win.arr_unscoped
theorem sub1 : Pipeline.arrRefs (τ := τ) (pcfgs (F := F) 1).spec ⊆ Pipeline.ucRefs τ sig :=
  Pipeline.arrRefs_sub_ucRefs _ launch1.win.arr_unscoped

/-- Each region is entered from the buffers as the item before left them, and leaves them to the next. -/
theorem enter0 (c : Dev nD) : iprop(StableHlo.held (c : Thread nD τ) (Pipeline.ucRefs τ sig) (U0 m c) ∗ ride c) ⊢ (reg0 m).pre c :=
  by unfold reg0; exact RegionSeg.ofHeldIn_pre (a := adm) (pdats := pdats m) (ι := ()) (defs₀ := defs₀) (𝒱₀ := Variants.none) (L := lvls) (lv := lev)
        (D := owed0) (X := fun c => iprop(∃ r, prngReg c r)) (Y := fun c => iprop(∃ r, prngReg c r)) (R := fun _ => iprop(emp)) (W := U0 m)
        (sub0 (F := F)) c
theorem leave0 (c : Dev nD) : (reg0 m).post c ⊢ iprop(StableHlo.held (c : Thread nD τ) (Pipeline.ucRefs τ sig) (U1 m c) ∗ ride c) :=
  by unfold reg0; exact RegionSeg.ofHeldIn_post (sub0 (F := F)) c
theorem enter1 (c : Dev nD) : iprop(StableHlo.held (c : Thread nD τ) (Pipeline.ucRefs τ sig) (U1 m c) ∗ ride c) ⊢ (reg1 m).pre c :=
  by unfold reg1; exact RegionSeg.ofHeldIn_pre (a := adm) (pdats := pdats m) (ι := ()) (defs₀ := defs₀) (𝒱₀ := Variants.none) (L := lvls) (lv := lev)
        (D := owed0) (X := fun c => iprop(∃ r, prngReg c r)) (Y := fun c => iprop(∃ r, prngReg c r)) (R := fun _ => iprop(emp)) (W := U1 m)
        (sub1 (F := F)) c
theorem leave1 (c : Dev nD) : (reg1 m).post c ⊢ iprop(StableHlo.held (c : Thread nD τ) (Pipeline.ucRefs τ sig) (U2 m c) ∗ ride c) :=
  by unfold reg1; exact RegionSeg.ofHeldIn_post (sub1 (F := F)) c
theorem ride_owes (c : Dev nD) : (ride c : sProp 𝕄) ⊢ iprop(∃ Wd, owes (c : Thread nD τ) (0 : CellTallies nD τ sig Unit) Wd) := by
  iintro ⟨HO, -, -⟩
  iexact HO

/-- The program as its segments. -/
abbrev items (c : Dev nD) := segs m Variants.none lvls lev (fun _ => ride) () (pdats m) (reg0 m) (reg1 m) c

set_option backward.isDefEq.respectTransparency.types false in
/-- Every weakly fair execution ends, with every buffer that outlives a call at `U2` and every semaphore at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = U2 m c b) ∧ r.2.sem = fun _ => 0) := by
  refine Pipeline.θ_run_regions_kit_dev_sems (pcfgs (F := F)) adm (pdats m) () cellOf_inj emb₁ defs₀ Variants.none lvls lev m ρ main
    (items m)
    (fun c Q => by
      rewrite [main_chain c, Seg.run_eq_chain,
        show (items m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()) ] from rfl]
      dsimp (config := { failIfUnchanged := false }) only
      exact .rfl)
    (fun c => by simp only [items, segs, Seg.pipes_host, Seg.pipes_region, Seg.pipes_nil]; decide) (O₀ := 0)
    (hL := fun g hg => if_neg hg) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride c))
    (Tₙ := fun c => StableHlo.held (c : Thread nD τ) (Pipeline.ucRefs τ sig) (U2 m c))
    (hch := fun c => ⟨.rfl, .rfl, .rfl, .rfl, .rfl, .rfl, .rfl, .rfl, .rfl, .rfl, .rfl, .rfl, .rfl,
      enter0 m c, (leave0 m c).trans (enter1 m c), (leave1 m c).trans (sep_mono .rfl (ride_owes c))⟩)
    (hinit := by
      refine Pipeline.initEach lvls lev fun c => ?_
      rw [show unscopedBufs c (fun b => m ((c : Thread nD τ).loc b)) = StableHlo.held (c : Thread nD τ) (Pipeline.ucRefs τ sig) (V0 m c)
        from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c : Thread nD τ).1, b) = U2 m c b)
    (hfin := fun c s' => by
      unfold StableHlo.held
      iintro ⟨Hh, HSI⟩
      ihave Hr := (pointsTo_read_all (Pipeline.ucRefs τ sig) (fun b => ((c : Thread nD τ).1, b)) (U2 m c) s') $$ [Hh HSI]
      · isplitl [Hh] <;> iassumption
      imodintro; iexact Hr)
    (hQ := fun _ h hz => ⟨h, funext fun g => hz g (.inr (regions_no_unscoped g.2))⟩)

/-- A buffer neither call writes is at the end what the host operations left. -/
theorem U2_keeps (c : Dev nD) (r : Ref sig .tc) (h0 : ∀ w : Fin cfg0.W, Pipeline.arrRef spec0 w = r → (cfg0.win w).isOut = false)
    (h1 : ∀ w : Fin cfg1.W, Pipeline.arrRef spec1 w = r → (cfg1.win w).isOut = false) : U2 m c (Proc.devRef .tc r) = U0 m c (Proc.devRef .tc r) :=
  (Pipeline.afterRegion_keeps (dat1 (U1 m) c) (U1 m c) launch1.win.arr_inj (dat1_A (U1 m) c) r h1).trans
    (Pipeline.afterRegion_keeps (dat0 (U0 m) c) (U0 m c) launch0.win.arr_inj (dat0_A (U0 m) c) r h0)

/-- The host operations write no argument. -/
theorem U0_main_arg0 (c : Dev nD) : U0 m c (Proc.devRef .tc main_arg0) = m ((c.tc : Thread nD τ).loc main_arg0) :=
  (V14_of m (fun _ r c => m ((c.tc : Thread nD τ).loc r)) c main_arg0 (by decide)).symm.trans <| (V15_of m _ c main_arg0 (by decide)).symm.trans (V15_main_arg0 m _ c)
theorem U0_main_arg1 (c : Dev nD) : U0 m c (Proc.devRef .tc main_arg1) = m ((c.tc : Thread nD τ).loc main_arg1) :=
  (V14_of m (fun _ r c => m ((c.tc : Thread nD τ).loc r)) c main_arg1 (by decide)).symm.trans <| (V15_of m _ c main_arg1 (by decide)).symm.trans (V15_main_arg1 m _ c)
theorem U0_main_arg2 (c : Dev nD) : U0 m c (Proc.devRef .tc main_arg2) = m ((c.tc : Thread nD τ).loc main_arg2) :=
  (V14_of m (fun _ r c => m ((c.tc : Thread nD τ).loc r)) c main_arg2 (by decide)).symm.trans <| (V15_of m _ c main_arg2 (by decide)).symm.trans (V15_main_arg2 m _ c)
theorem U0_main_arg3 (c : Dev nD) : U0 m c (Proc.devRef .tc main_arg3) = m ((c.tc : Thread nD τ).loc main_arg3) :=
  (V14_of m (fun _ r c => m ((c.tc : Thread nD τ).loc r)) c main_arg3 (by decide)).symm.trans <| (V15_of m _ c main_arg3 (by decide)).symm.trans (V15_main_arg3 m _ c)

theorem U2_main_arg0 (c : Dev nD) : U2 m c (Proc.devRef .tc main_arg0) = m ((c.tc : Thread nD τ).loc main_arg0) :=
  (U2_keeps m c main_arg0 (by decide) (by decide)).trans (U0_main_arg0 m c)
theorem U2_main_arg1 (c : Dev nD) : U2 m c (Proc.devRef .tc main_arg1) = m ((c.tc : Thread nD τ).loc main_arg1) :=
  (U2_keeps m c main_arg1 (by decide) (by decide)).trans (U0_main_arg1 m c)
theorem U2_main_arg2 (c : Dev nD) : U2 m c (Proc.devRef .tc main_arg2) = m ((c.tc : Thread nD τ).loc main_arg2) :=
  (U2_keeps m c main_arg2 (by decide) (by decide)).trans (U0_main_arg2 m c)
theorem U2_main_arg3 (c : Dev nD) : U2 m c (Proc.devRef .tc main_arg3) = m ((c.tc : Thread nD τ).loc main_arg3) :=
  (U2_keeps m c main_arg3 (by decide) (by decide)).trans (U0_main_arg3 m c)

/-- A buffer that outlives a call, by its name. -/
theorem memUc (b : Ref sig .tc) (h : b.isScoped = false) : Proc.devRef .tc b ∈ Pipeline.ucRefs τ sig :=
  Finset.mem_filter.mpr ⟨StableHlo.devRef_mem_tcRefs b, by
    intro h'; exact Bool.false_ne_true (h.symm.trans h')⟩

/-- The run read at the result and the arguments. -/
theorem run_main : θ_run defs (onTc (τ := τ) (main (F := F))) ⟨m, fun _ => 0, ρ⟩ (fun r => (∀ c : Dev nD,
      r.2.mem ((c.tc : Thread nD τ).loc main_v135) = U2 m c (Proc.devRef .tc main_v135)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) :=
  (θ_run defs _ _).mono (fun _ h => ⟨fun c => ⟨h.1 c _ (memUc main_v135 rfl),
    (h.1 c _ (memUc main_arg0 rfl)).trans (U2_main_arg0 m c), (h.1 c _ (memUc main_arg1 rfl)).trans (U2_main_arg1 m c),
    (h.1 c _ (memUc main_arg2 rfl)).trans (U2_main_arg2 m c), (h.1 c _ (memUc main_arg3 rfl)).trans (U2_main_arg3 m c)⟩, h.2⟩)
    (run_all m ρ)

end Cert.KernelIdeal.Hand

end
-- ==== Proof.Ideal.Ops.lean ====
module

public import proofs.«01_k».proof.Proof.Gen.KernelIdeal.Skeleton
public import Idealize.ShloMosaic.Lib.Pointwise
public import Idealize.ShloMosaic.Lib.Routing.Words

@[expose] public section

noncomputable section

namespace Cert.KernelIdeal.Hand

open Cert.KernelIdeal.Gen
open Idealize.ShloMosaic

/-- A 128 × 128 table of extended reals. -/
abbrev Mat := Fin 128 → Fin 128 → EReal

/-- The matrix product. -/
def mm (a b : Mat) : Mat := fun i j => ∑ k : Fin 128, a i k * b k j

/-- The two-dimensional transform of `p`: real and imaginary part, `a` on the left and `b` on the right. -/
def fwdRe (ar ai br bi p : Mat) : Mat := fun i j => mm (mm ar p) br i j - mm (mm ai p) bi i j
def fwdIm (ar ai br bi p : Mat) : Mat := fun i j => mm (mm ar p) bi i j + mm (mm ai p) br i j

/-- The real part of the conjugate transform of `er + i ei`. -/
def bwdRe (ar ai br bi er ei : Mat) : Mat := fun i j =>
  mm (fun i j => mm br er i j + mm bi ei i j) ar i j + mm (fun i j => mm br ei i j - mm bi er i j) ai i j

/-- One channel's enhancement: transform, multiply by the gain, transform back. -/
def enhance (ar ai br bi g p : Mat) : Mat :=
  bwdRe ar ai br bi (fun i j => g i j * fwdRe ar ai br bi p i j) (fun i j => g i j * fwdIm ar ai br bi p i j)

/-- The products a pair of row slabs of the projection takes, at an element. -/
theorem projL_apply (wk : FVec Ideal S128x2048 .bf16) (xa xb : Vec Ideal S1x256x8x128 .f32) (m : Fin 16) (r : Fin 8) (w : Fin 128) :
    k1_pay16 wk xa xb (ix3 m r w)
      = ∑ q : Fin 2048, wk (ix2 ⟨m.val * 8 + r.val, by omega⟩ q) * xa (ix4 0 ⟨q.val / 8, by omega⟩ ⟨q.val % 8, by omega⟩ w) := by
  pointwise [k1_pay16, k1_pay15]

theorem projR_apply (wk : FVec Ideal S128x2048 .bf16) (xa xb : Vec Ideal S1x256x8x128 .f32) (m : Fin 16) (r : Fin 8) (w : Fin 128) :
    k1_pay17 wk xa xb (ix3 m r w)
      = ∑ q : Fin 2048, wk (ix2 ⟨m.val * 8 + r.val, by omega⟩ q) * xb (ix4 0 ⟨q.val / 8, by omega⟩ ⟨q.val % 8, by omega⟩ w) := by
  pointwise [k1_pay17, k1_pay15]

/-- The enhancement of a pair of channels: the stored block of the first and of the second. -/
def pairL {F : FTy → Type} [FloatOps F] (ar ai br bi : FVec F S128x128 .bf16) (pa pb : Vec F S1x128x128 .bf16) (ga gb : Vec F S1x128x128 .f32) : FVec F S1x128x128 .bf16 :=
  k1_pay55 ar ai br bi (k1_pay52 ar ai br bi pa pb ga gb) (k1_pay53 ar ai br bi pa pb ga gb)
def pairR {F : FTy → Type} [FloatOps F] (ar ai br bi : FVec F S128x128 .bf16) (pa pb : Vec F S1x128x128 .bf16) (ga gb : Vec F S1x128x128 .f32) : FVec F S1x128x128 .bf16 :=
  k1_pay56 ar ai br bi (k1_pay52 ar ai br bi pa pb ga gb) (k1_pay53 ar ai br bi pa pb ga gb)

def mat {φ : FTy} (v : FVec Ideal S128x128 φ) : Mat := fun i j => v (ix2 i j)
def mat1 {φ : FTy} (v : FVec Ideal S1x128x128 φ) : Mat := fun i j => v (ix3 0 i j)

theorem pairL_apply (ar ai br bi : FVec Ideal S128x128 .bf16) (pa pb : Vec Ideal S1x128x128 .bf16) (ga gb : Vec Ideal S1x128x128 .f32) (z : Fin 1) (h w : Fin 128) :
    pairL ar ai br bi pa pb ga gb (ix3 z h w) = enhance (mat ar) (mat ai) (mat br) (mat bi) (mat1 (φ := .f32) ga) (mat1 (φ := .bf16) pa) h w := by
  pointwise [pairL, k1_pay55, k1_pay54, k1_pay53, k1_pay52, k1_pay51, k1_pay50, k1_pay49, k1_pay48, enhance, bwdRe, fwdRe, fwdIm, mm, mat, mat1]

theorem pairR_apply (ar ai br bi : FVec Ideal S128x128 .bf16) (pa pb : Vec Ideal S1x128x128 .bf16) (ga gb : Vec Ideal S1x128x128 .f32) (z : Fin 1) (h w : Fin 128) :
    pairR ar ai br bi pa pb ga gb (ix3 z h w) = enhance (mat ar) (mat ai) (mat br) (mat bi) (mat1 (φ := .f32) gb) (mat1 (φ := .bf16) pb) h w := by
  pointwise [pairR, k1_pay56, k1_pay54, k1_pay53, k1_pay52, k1_pay51, k1_pay50, k1_pay49, k1_pay48, enhance, bwdRe, fwdRe, fwdIm, mm, mat, mat1]

/-- The residual sum of a pair of row slabs of the output: the first's stored block and the second's. -/
def slabL {F : FTy → Type} [FloatOps F] (wk : FVec F S1024x128 .bf16) (ya yb : Vec F S16x8x128 .bf16) (x : Vec F S1x128x8x128 .f32) : FVec F S1x128x8x128 .f32 :=
  shapeCast S1x128x8x128 (addf (shapeCast S128x8x128 x shapeCasts_S1x128x8x128_S128x8x128)
    (shapeCast S128x8x128 (extractStridedSlice S1024x128 ![0, 0] (k1_pay130 wk ya yb) slices_S1024x256_o0_0_S1024x128) shapeCasts_S1024x128_S128x8x128)) shapeCasts_S128x8x128_S1x128x8x128
def slabR {F : FTy → Type} [FloatOps F] (wk : FVec F S1024x128 .bf16) (ya yb : Vec F S16x8x128 .bf16) (x : Vec F S1x128x8x128 .f32) : FVec F S1x128x8x128 .f32 :=
  shapeCast S1x128x8x128 (addf (shapeCast S128x8x128 x shapeCasts_S1x128x8x128_S128x8x128)
    (shapeCast S128x8x128 (extractStridedSlice S1024x128 ![0, 128] (k1_pay130 wk ya yb) slices_S1024x256_o0_128_S1024x128) shapeCasts_S1024x128_S128x8x128)) shapeCasts_S128x8x128_S1x128x8x128

theorem slabL_apply (wk : FVec Ideal S1024x128 .bf16) (ya yb : Vec Ideal S16x8x128 .bf16) (x : Vec Ideal S1x128x8x128 .f32) (z : Fin 1) (o : Fin 128) (r : Fin 8) (w : Fin 128) :
    slabL wk ya yb x (ix4 z o r w) = x (ix4 z o r w) + ∑ q : Fin 128, wk (ix2 ⟨o.val * 8 + r.val, by omega⟩ q) * ya (ix3 ⟨q.val / 8, by omega⟩ ⟨q.val % 8, by omega⟩ w) := by
  obtain rfl : z = 0 := Subsingleton.elim _ _
  pointwise [slabL, k1_pay130]
theorem slabR_apply (wk : FVec Ideal S1024x128 .bf16) (ya yb : Vec Ideal S16x8x128 .bf16) (x : Vec Ideal S1x128x8x128 .f32) (z : Fin 1) (o : Fin 128) (r : Fin 8) (w : Fin 128) :
    slabR wk ya yb x (ix4 z o r w) = x (ix4 z o r w) + ∑ q : Fin 128, wk (ix2 ⟨o.val * 8 + r.val, by omega⟩ q) * yb (ix3 ⟨q.val / 8, by omega⟩ ⟨q.val % 8, by omega⟩ w) := by
  obtain rfl : z = 0 := Subsingleton.elim _ _
  pointwise [slabR, k1_pay130]

/-- The replicated weights: the small weight of the row's and column's slab number where the two places inside the slab agree, else zero. -/
def kronIn {F : FTy → Type} [FloatOps F] (sri : Vec F S128x16 .f32) (win : Vec F S16x256 .f32) (sci : Vec F S256x2048 .bf16) : FVec F S128x2048 .bf16 :=
  k1_pay7 (k1_pay2 sri win sci) k1_pay3 k1_pay4 k1_pay5 k1_pay6
def kronOut {F : FTy → Type} [FloatOps F] (sro : Vec F S1024x128 .f32) (wout : Vec F S128x16 .f32) (sco : Vec F S16x128 .bf16) : FVec F S1024x128 .bf16 :=
  k1_pay125 (k1_pay120 sro wout sco) k1_pay121 8#32 k1_pay122 k1_pay123 k1_pay124

/-- The divisor the masks take is the word eight. -/
theorem eight_word : Scalar.select (Scalar.cmpi .eq 8#32 0#32) 1#32 8#32 = 8#32 := rfl
/-- The remainder of a small word by eight. -/
theorem rem_eight (n : ℕ) (hn : n < 2048) : IntOp.remsi .vector (BitVec.ofNat 32 n) 8#32 = BitVec.ofNat 32 (n % 8) :=
  Routing.remsi_word .vector (by omega) (by omega) (by omega)
/-- The sign correction of the remainder changes no word below eight. -/
theorem sign_fix (k : ℕ) (hk : k < 8) : Scalar.select (IntOp.andi (IntOp.xori (IntOp.cmpi .slt (BitVec.ofNat 32 k) 0#32) (Scalar.cmpi .slt 8#32 0#32)) (IntOp.cmpi .ne (BitVec.ofNat 32 k) 0#32)) (IntOp.addi (BitVec.ofNat 32 k) 8#32) (BitVec.ofNat 32 k) = BitVec.ofNat 32 k := by
  interval_cases k <;> rfl
/-- The comparison of two small words, as a number. -/
theorem eq_number (a b : ℕ) (ha : a < 8) (hb : b < 8) :
    (FloatOps.sitofp (F := Ideal) FTy.f32 (BitVec.setWidth 32 (IntOp.cmpi .eq (BitVec.ofNat 32 a) (BitVec.ofNat 32 b))) : EReal) = if a = b then 1 else 0 := by
  show ((((BitVec.setWidth 32 (IntOp.cmpi .eq (BitVec.ofNat 32 a) (BitVec.ofNat 32 b))).toInt : ℤ) : ℝ) : EReal) = _
  have h : (BitVec.setWidth 32 (IntOp.cmpi .eq (BitVec.ofNat 32 a) (BitVec.ofNat 32 b))).toInt = if a = b then 1 else 0 := by
    interval_cases a <;> interval_cases b <;> rfl
  rw [h]; split <;> simp

theorem kronIn_apply (sri : Vec Ideal S128x16 .f32) (win : Vec Ideal S16x256 .f32) (sci : Vec Ideal S256x2048 .bf16) (p : Fin 128) (q : Fin 2048) :
    kronIn sri win sci (ix2 p q) = (∑ c : Fin 256, (∑ m : Fin 16, sri (ix2 p m) * win (ix2 m c)) * sci (ix2 c q)) * (if p.val % 8 = q.val % 8 then 1 else 0) := by
  pointwise [kronIn, k1_pay7, k1_pay2, k1_pay3, k1_pay4, k1_pay5, k1_pay6]
  rw [eight_word, rem_eight _ (by omega), rem_eight _ (by omega), sign_fix _ (by omega), sign_fix _ (by omega), eq_number _ _ (by omega) (by omega)]
theorem kronOut_apply (sro : Vec Ideal S1024x128 .f32) (wout : Vec Ideal S128x16 .f32) (sco : Vec Ideal S16x128 .bf16) (p : Fin 1024) (q : Fin 128) :
    kronOut sro wout sco (ix2 p q) = (∑ m : Fin 16, (∑ o : Fin 128, sro (ix2 p o) * wout (ix2 o m)) * sco (ix2 m q)) * (if p.val % 8 = q.val % 8 then 1 else 0) := by
  pointwise [kronOut, k1_pay125, k1_pay120, k1_pay121, k1_pay122, k1_pay123, k1_pay124]
  rw [eight_word, rem_eight _ (by omega), rem_eight _ (by omega), sign_fix _ (by omega), sign_fix _ (by omega), eq_number _ _ (by omega) (by omega)]

end Cert.KernelIdeal.Hand

end
-- ==== Proof.Ideal.Tiles.lean ====
/-
  The enhancement call's stores as tiles of whole arrays: each row slab of the projection, each channel's
  enhancement, and each row slab of the output is the whole array's function read where the store writes.
-/
module

public import proofs.«01_k».proof.Proof.Ideal.Ops
public import Idealize.ShloMosaic.Lib.Pipeline.ReadBack
public import Idealize.ShloMosaic.Lib.Pipeline.Value
public import Idealize.ShloMosaic.Lib.Pipeline.ValueKit.Geometry

@[expose] public section

noncomputable section

namespace Cert.KernelIdeal.Hand

open Cert.KernelIdeal.Gen
open Idealize.ShloMosaic

/-- A load through a whole memref that holds `x` reads `x` where the box lies. -/
theorem load_box {sp : Space} {s : Shape} {e : EltTy} (a : Memref sig .tc sp s e) (h : a.IsWhole) (x : Vec Ideal s e) (r : Rect s) :
    View.readAt (Elt Ideal) a.view r.toLoadRect (h.unread x) = fun j => x (r.emb j) := by
  funext j
  rw [View.readAt_apply, h.read_unread]; rfl

/-- A load of the whole of it reads `x`. -/
theorem load_all {sp : Space} {s : Shape} {e : EltTy} (a : Memref sig .tc sp s e) (h : a.IsWhole) (x : Vec Ideal s e) (off : Fin s.rank → ℕ)
    (h0 : ∀ d, off d = 0) (inb : ∀ d, off d + s.size d ≤ s.size d) :
    View.readAt (Elt Ideal) a.view (Rect.unit off s.size inb).toLoadRect (h.unread x) = x := by
  rw [load_box]; funext j; congr 1; funext d; apply Fin.ext
  rw [ValueKit.rect_emb_unit_val, h0, Nat.zero_add]

/-- A load over stores that are all tiles of `G`, and cover, reads `G`. -/
theorem load_tiles {sp : Space} {s : Shape} {e : EltTy} (v : View sig .tc sp s e) (G : s.Idx → Elt Ideal e) (L : List (View.Piece (Elt Ideal) s e))
    (hG : View.PiecesOf G L) (hc : ∀ y, ∃ p ∈ L, y ∈ p.1.set) (r : Rect s) :
    v.readCov L r.toLoadRect = fun j => G (r.emb j) := by
  rw [View.readCov_eq_canon']; funext j
  exact View.canon_apply_of_pieces G L hG.mem _ (hc _)

/-- What such stores leave, read whole. -/
theorem read_tiles {sp : Space} {s : Shape} {e : EltTy} (v : View sig .tc sp s e) (G : s.Idx → Elt Ideal e) (L : List (View.Piece (Elt Ideal) s e))
    (hG : View.PiecesOf G L) (hc : ∀ y, ∃ p ∈ L, y ∈ p.1.set) :
    v.read (Elt Ideal) (v.writes (Elt Ideal) v.junk L) = G := by
  rw [View.read_writes_junk_eq_canon]; funext y
  exact View.canon_apply_of_pieces G L hG.mem _ (hc _)

/-- The projection the kernel computes: eight rows at a time against the replicated weights. -/
def projG (wk : FVec Ideal S128x2048 .bf16) (x0 : Vec Ideal S1x256x128x128 .f32) : S16x128x128.Idx → EReal := fun y =>
  ∑ q : Fin 2048, wk (ix2 ⟨(y 0).val * 8 + (y 1).val % 8, by have := (y 0).isLt; change (y 0).val < 16 at this; omega⟩ q)
    * x0 (ix4 0 ⟨q.val / 8, by omega⟩ ⟨(y 1).val / 8 * 8 + q.val % 8, by have := (y 1).isLt; change (y 1).val < 128 at this; omega⟩ (y 2))

theorem projG_slab (wk : FVec Ideal S128x2048 .bf16) (x0 : Vec Ideal S1x256x128x128 .f32) (o : ℕ) (ho : o % 8 = 0)
    (inb : ∀ d, (![0, o, 0] : Fin 3 → ℕ) d + S16x8x128.size d ≤ S16x128x128.size d)
    (inx : ∀ d, (![0, 0, o, 0] : Fin 4 → ℕ) d + S1x256x8x128.size d ≤ S1x256x128x128.size d) (m : Fin 16) (r : Fin 8) (w : Fin 128) :
    (∑ q : Fin 2048, wk (ix2 ⟨m.val * 8 + r.val, by omega⟩ q)
        * x0 ((Rect.unit (s := S1x256x128x128) ![0, 0, o, 0] S1x256x8x128.size inx).emb (ix4 0 ⟨q.val / 8, by omega⟩ ⟨q.val % 8, by omega⟩ w)))
      = projG wk x0 ((Rect.unit (s := S16x128x128) ![0, o, 0] S16x8x128.size inb).emb (ix3 m r w)) := by
  unfold projG
  refine Finset.sum_congr rfl fun q _ => ?_
  have e0 := ValueKit.rect_emb_unit_val (s := S16x128x128) ![0, o, 0] S16x8x128.size inb (ix3 m r w) 0
  have e1 := ValueKit.rect_emb_unit_val (s := S16x128x128) ![0, o, 0] S16x8x128.size inb (ix3 m r w) 1
  have e2 := ValueKit.rect_emb_unit_val (s := S16x128x128) ![0, o, 0] S16x8x128.size inb (ix3 m r w) 2
  change _ = 0 + m.val at e0
  change _ = o + r.val at e1
  change _ = 0 + w.val at e2
  generalize (Rect.unit (s := S16x128x128) ![0, o, 0] S16x8x128.size inb).emb (ix3 m r w) = y at e0 e1 e2 ⊢
  congr 1
  · refine congrArg (fun p => wk (ix2 p q)) (Fin.ext ?_)
    show m.val * 8 + r.val = (y 0).val * 8 + (y 1).val % 8
    rw [e0, e1]; omega
  · refine congrArg x0 (funext fun d => Fin.ext ?_)
    rw [ValueKit.rect_emb_unit_val]
    fin_cases d
    · rfl
    · show 0 + q.val / 8 = q.val / 8; omega
    · show o + q.val % 8 = (y 1).val / 8 * 8 + q.val % 8
      rw [e1]; omega
    · show 0 + w.val = (y 2).val
      rw [e2]

/-- The two slabs a pair of the projection's products stores. -/
theorem projL_tile (wk : FVec Ideal S128x2048 .bf16) (x0 : Vec Ideal S1x256x128x128 .f32) (o : ℕ) (ho : o % 8 = 0)
    (inb : ∀ d, (![0, o, 0] : Fin 3 → ℕ) d + S16x8x128.size d ≤ S16x128x128.size d)
    (inx : ∀ d, (![0, 0, o, 0] : Fin 4 → ℕ) d + S1x256x8x128.size d ≤ S1x256x128x128.size d) (xa xb : Vec Ideal S1x256x8x128 .f32)
    (hx : xa = fun j => x0 ((Rect.unit (s := S1x256x128x128) ![0, 0, o, 0] S1x256x8x128.size inx).emb j)) (x : S16x8x128.Idx) :
    k1_pay16 wk xa xb x = projG wk x0 ((Rect.unit (s := S16x128x128) ![0, o, 0] S16x8x128.size inb).emb x) := by
  obtain ⟨m, r, w, rfl⟩ : ∃ (m : Fin 16) (r : Fin 8) (w : Fin 128), x = ix3 m r w := ⟨x 0, x 1, x 2, eq_ix3 x⟩
  rw [projL_apply, hx]
  exact projG_slab wk x0 o ho inb inx m r w
theorem projR_tile (wk : FVec Ideal S128x2048 .bf16) (x0 : Vec Ideal S1x256x128x128 .f32) (o : ℕ) (ho : o % 8 = 0)
    (inb : ∀ d, (![0, o, 0] : Fin 3 → ℕ) d + S16x8x128.size d ≤ S16x128x128.size d)
    (inx : ∀ d, (![0, 0, o, 0] : Fin 4 → ℕ) d + S1x256x8x128.size d ≤ S1x256x128x128.size d) (xa xb : Vec Ideal S1x256x8x128 .f32)
    (hx : xb = fun j => x0 ((Rect.unit (s := S1x256x128x128) ![0, 0, o, 0] S1x256x8x128.size inx).emb j)) (x : S16x8x128.Idx) :
    k1_pay17 wk xa xb x = projG wk x0 ((Rect.unit (s := S16x128x128) ![0, o, 0] S16x8x128.size inb).emb x) := by
  obtain ⟨m, r, w, rfl⟩ : ∃ (m : Fin 16) (r : Fin 8) (w : Fin 128), x = ix3 m r w := ⟨x 0, x 1, x 2, eq_ix3 x⟩
  rw [projR_apply, hx]
  exact projG_slab wk x0 o ho inb inx m r w

/-- The sixteen channels' enhancement, by the tables, the gain and the projection. -/
def enhG (ar ai br bi : FVec Ideal S128x128 .bf16) (g p : S16x128x128.Idx → EReal) : S16x128x128.Idx → EReal := fun y =>
  enhance (mat ar) (mat ai) (mat br) (mat bi) (fun i j => g (ix3 (y 0) i j)) (fun i j => p (ix3 (y 0) i j)) (y 1) (y 2)

/-- A store equal to a tile of `G` is one. -/
theorem tile_of_eq {S : Shape} {w w' G : S.Idx → EReal} (h : ∀ x, w' x = G x) (e : w = w') (x : S.Idx) : w x = G x := e ▸ h x

/-- A channel's box lies in the array. -/
theorem chan_inb (k : ℕ) (h : k < 16) (d : Fin 3) : (![k, 0, 0] : Fin 3 → ℕ) d + S1x128x128.size d ≤ S16x128x128.size d := by
  fin_cases d
  · show k + 1 ≤ 16; omega
  · exact Nat.le_refl 128
  · exact Nat.le_refl 128

/-- A channel's box of a three-axis array, at an index. -/
theorem channel_box (k : ℕ) (inb : ∀ d, (![k, 0, 0] : Fin 3 → ℕ) d + S1x128x128.size d ≤ S16x128x128.size d) (z : Fin 1) (i j : Fin 128) :
    (Rect.unit (s := S16x128x128) ![k, 0, 0] S1x128x128.size inb).emb (ix3 z i j) = ix3 (⟨k, by have := inb 0; change k + 1 ≤ 16 at this; omega⟩ : Fin 16) i j := by
  funext d; apply Fin.ext
  rw [ValueKit.rect_emb_unit_val]
  fin_cases d
  · show k + z.val = k; omega
  · show 0 + i.val = i.val; omega
  · show 0 + j.val = j.val; omega

/-- The two channels a pair of transforms stores. -/
theorem pairL_tile (ar ai br bi : FVec Ideal S128x128 .bf16) (g p : S16x128x128.Idx → EReal) (k : ℕ)
    (inb : ∀ d, (![k, 0, 0] : Fin 3 → ℕ) d + S1x128x128.size d ≤ S16x128x128.size d) (pa pb : Vec Ideal S1x128x128 .bf16) (ga gb : Vec Ideal S1x128x128 .f32)
    (hp : pa = fun j => p ((Rect.unit (s := S16x128x128) ![k, 0, 0] S1x128x128.size inb).emb j))
    (hg : ga = fun j => g ((Rect.unit (s := S16x128x128) ![k, 0, 0] S1x128x128.size inb).emb j)) (x : S1x128x128.Idx) :
    pairL ar ai br bi pa pb ga gb x = enhG ar ai br bi g p ((Rect.unit (s := S16x128x128) ![k, 0, 0] S1x128x128.size inb).emb x) := by
  obtain ⟨z, i, j, rfl⟩ : ∃ (z : Fin 1) (i j : Fin 128), x = ix3 z i j := ⟨x 0, x 1, x 2, eq_ix3 x⟩
  rw [pairL_apply, channel_box, hp, hg]
  exact congrArg₂ (fun a b => enhance (mat ar) (mat ai) (mat br) (mat bi) a b i j)
    (funext fun i => funext fun j => congrArg g (channel_box k inb 0 i j)) (funext fun i => funext fun j => congrArg p (channel_box k inb 0 i j))
theorem pairR_tile (ar ai br bi : FVec Ideal S128x128 .bf16) (g p : S16x128x128.Idx → EReal) (k : ℕ)
    (inb : ∀ d, (![k, 0, 0] : Fin 3 → ℕ) d + S1x128x128.size d ≤ S16x128x128.size d) (pa pb : Vec Ideal S1x128x128 .bf16) (ga gb : Vec Ideal S1x128x128 .f32)
    (hp : pb = fun j => p ((Rect.unit (s := S16x128x128) ![k, 0, 0] S1x128x128.size inb).emb j))
    (hg : gb = fun j => g ((Rect.unit (s := S16x128x128) ![k, 0, 0] S1x128x128.size inb).emb j)) (x : S1x128x128.Idx) :
    pairR ar ai br bi pa pb ga gb x = enhG ar ai br bi g p ((Rect.unit (s := S16x128x128) ![k, 0, 0] S1x128x128.size inb).emb x) := by
  obtain ⟨z, i, j, rfl⟩ : ∃ (z : Fin 1) (i j : Fin 128), x = ix3 z i j := ⟨x 0, x 1, x 2, eq_ix3 x⟩
  rw [pairR_apply, channel_box, hp, hg]
  exact congrArg₂ (fun a b => enhance (mat ar) (mat ai) (mat br) (mat bi) a b i j)
    (funext fun i => funext fun j => congrArg g (channel_box k inb 0 i j)) (funext fun i => funext fun j => congrArg p (channel_box k inb 0 i j))

/-- The output rows a point computes: half `h` of the channels of the input, and the enhanced channels against the replicated weights. -/
def outG (wk : FVec Ideal S1024x128 .bf16) (x0 : Vec Ideal S1x256x128x128 .f32) (p : S16x128x128.Idx → EReal) (h : Fin 2) : S1x128x128x128.Idx → EReal := fun y =>
  x0 (ix4 0 ⟨h.val * 128 + (y 1).val, by have := (y 1).isLt; change (y 1).val < 128 at this; omega⟩ (y 2) (y 3))
    + ∑ q : Fin 128, wk (ix2 ⟨(y 1).val * 8 + (y 2).val % 8, by have := (y 1).isLt; change (y 1).val < 128 at this; omega⟩ q)
      * p (ix3 ⟨q.val / 8, by omega⟩ ⟨(y 2).val / 8 * 8 + q.val % 8, by have := (y 2).isLt; change (y 2).val < 128 at this; omega⟩ (y 3))

theorem outG_slab (wk : FVec Ideal S1024x128 .bf16) (x0 : Vec Ideal S1x256x128x128 .f32) (p : S16x128x128.Idx → EReal) (h : Fin 2) (o : ℕ) (ho : o % 8 = 0)
    (inb : ∀ d, (![0, 0, o, 0] : Fin 4 → ℕ) d + S1x128x8x128.size d ≤ S1x128x128x128.size d)
    (iny : ∀ d, (![0, o, 0] : Fin 3 → ℕ) d + S16x8x128.size d ≤ S16x128x128.size d)
    (off : Fin 4 → ℕ) (hoff : off = ![0, h.val * 128, o, 0]) (inx : ∀ d, off d + S1x128x8x128.size d ≤ S1x256x128x128.size d) (z : Fin 1) (m : Fin 128) (r : Fin 8) (w : Fin 128) :
    x0 ((Rect.unit (s := S1x256x128x128) off S1x128x8x128.size inx).emb (ix4 z m r w))
      + (∑ q : Fin 128, wk (ix2 ⟨m.val * 8 + r.val, by omega⟩ q)
        * p ((Rect.unit (s := S16x128x128) ![0, o, 0] S16x8x128.size iny).emb (ix3 ⟨q.val / 8, by omega⟩ ⟨q.val % 8, by omega⟩ w)))
      = outG wk x0 p h ((Rect.unit (s := S1x128x128x128) ![0, 0, o, 0] S1x128x8x128.size inb).emb (ix4 z m r w)) := by
  subst hoff
  unfold outG
  have e1 := ValueKit.rect_emb_unit_val (s := S1x128x128x128) ![0, 0, o, 0] S1x128x8x128.size inb (ix4 z m r w) 1
  have e2 := ValueKit.rect_emb_unit_val (s := S1x128x128x128) ![0, 0, o, 0] S1x128x8x128.size inb (ix4 z m r w) 2
  have e3 := ValueKit.rect_emb_unit_val (s := S1x128x128x128) ![0, 0, o, 0] S1x128x8x128.size inb (ix4 z m r w) 3
  change _ = 0 + m.val at e1
  change _ = o + r.val at e2
  change _ = 0 + w.val at e3
  generalize hy : (Rect.unit (s := S1x128x128x128) ![0, 0, o, 0] S1x128x8x128.size inb).emb (ix4 z m r w) = y at e1 e2 e3 ⊢
  congr 1
  · refine congrArg x0 (funext fun d => Fin.ext ?_)
    rw [ValueKit.rect_emb_unit_val]
    fin_cases d
    · show 0 + z.val = 0; omega
    · show h.val * 128 + m.val = h.val * 128 + (y 1).val; rw [e1]; omega
    · show o + r.val = (y 2).val; rw [e2]
    · show 0 + w.val = (y 3).val; rw [e3]
  · refine Finset.sum_congr rfl fun q _ => ?_
    congr 1
    · refine congrArg (fun p => wk (ix2 p q)) (Fin.ext ?_)
      show m.val * 8 + r.val = (y 1).val * 8 + (y 2).val % 8
      rw [e1, e2]; omega
    · refine congrArg p (funext fun d => Fin.ext ?_)
      rw [ValueKit.rect_emb_unit_val]
      fin_cases d
      · show 0 + q.val / 8 = q.val / 8; omega
      · show o + q.val % 8 = (y 2).val / 8 * 8 + q.val % 8; rw [e2]; omega
      · show 0 + w.val = (y 3).val; rw [e3]

/-- The two slabs a pair of the output's products stores. -/
theorem slabL_tile (wk : FVec Ideal S1024x128 .bf16) (x0 : Vec Ideal S1x256x128x128 .f32) (p : S16x128x128.Idx → EReal) (h : Fin 2) (o : ℕ) (ho : o % 8 = 0)
    (inb : ∀ d, (![0, 0, o, 0] : Fin 4 → ℕ) d + S1x128x8x128.size d ≤ S1x128x128x128.size d)
    (iny : ∀ d, (![0, o, 0] : Fin 3 → ℕ) d + S16x8x128.size d ≤ S16x128x128.size d)
    (off : Fin 4 → ℕ) (hoff : off = ![0, h.val * 128, o, 0]) (inx : ∀ d, off d + S1x128x8x128.size d ≤ S1x256x128x128.size d)
    (ya yb : Vec Ideal S16x8x128 .bf16) (xr : Vec Ideal S1x128x8x128 .f32)
    (hy : ya = fun j => p ((Rect.unit (s := S16x128x128) ![0, o, 0] S16x8x128.size iny).emb j))
    (hx : xr = fun j => x0 ((Rect.unit (s := S1x256x128x128) off S1x128x8x128.size inx).emb j)) (x : S1x128x8x128.Idx) :
    slabL wk ya yb xr x = outG wk x0 p h ((Rect.unit (s := S1x128x128x128) ![0, 0, o, 0] S1x128x8x128.size inb).emb x) := by
  obtain ⟨z, m, r, w, rfl⟩ : ∃ (z : Fin 1) (m : Fin 128) (r : Fin 8) (w : Fin 128), x = ix4 z m r w := ⟨x 0, x 1, x 2, x 3, eq_ix4 x⟩
  rw [slabL_apply, hy, hx]
  exact outG_slab wk x0 p h o ho inb iny off hoff inx z m r w
theorem slabR_tile (wk : FVec Ideal S1024x128 .bf16) (x0 : Vec Ideal S1x256x128x128 .f32) (p : S16x128x128.Idx → EReal) (h : Fin 2) (o : ℕ) (ho : o % 8 = 0)
    (inb : ∀ d, (![0, 0, o, 0] : Fin 4 → ℕ) d + S1x128x8x128.size d ≤ S1x128x128x128.size d)
    (iny : ∀ d, (![0, o, 0] : Fin 3 → ℕ) d + S16x8x128.size d ≤ S16x128x128.size d)
    (off : Fin 4 → ℕ) (hoff : off = ![0, h.val * 128, o, 0]) (inx : ∀ d, off d + S1x128x8x128.size d ≤ S1x256x128x128.size d)
    (ya yb : Vec Ideal S16x8x128 .bf16) (xr : Vec Ideal S1x128x8x128 .f32)
    (hy : yb = fun j => p ((Rect.unit (s := S16x128x128) ![0, o, 0] S16x8x128.size iny).emb j))
    (hx : xr = fun j => x0 ((Rect.unit (s := S1x256x128x128) off S1x128x8x128.size inx).emb j)) (x : S1x128x8x128.Idx) :
    slabR wk ya yb xr x = outG wk x0 p h ((Rect.unit (s := S1x128x128x128) ![0, 0, o, 0] S1x128x8x128.size inb).emb x) := by
  obtain ⟨z, m, r, w, rfl⟩ : ∃ (z : Fin 1) (m : Fin 128) (r : Fin 8) (w : Fin 128), x = ix4 z m r w := ⟨x 0, x 1, x 2, x 3, eq_ix4 x⟩
  rw [slabR_apply, hy, hx]
  exact outG_slab wk x0 p h o ho inb iny off hoff inx z m r w

end Cert.KernelIdeal.Hand

end
-- ==== Proof.Ideal.Points.lean ====
/-
  What the enhancement call's two runs leave: the projection, the enhanced channels and the output rows as whole arrays.
-/
module

public import proofs.«01_k».proof.Proof.Ideal.Body
public import proofs.«01_k».proof.Proof.Ideal.Tiles
import all proofs.«01_k».proof.Proof.Ideal.RunA
import all proofs.«01_k».proof.Proof.Ideal.RunB

public section

noncomputable section

namespace Cert.KernelIdeal.Hand

open Cert.KernelIdeal.Gen
open Idealize.ShloMosaic

/-- The weights an even point replicates. -/
theorem weights_in (c : Dev nD) (arg3 : Memref sig .tc .vmem S16x256 .f32) (harg3 : arg3.IsWhole) (arg10 : Memref sig .tc .vmem S128x16 .f32) (harg10 : arg10.IsWhole) (arg11 : Memref sig .tc .vmem S256x2048 .bf16) (harg11 : arg11.IsWhole)
    (x1 : Vec Ideal S16x256 .f32) (x8 : Vec Ideal S128x16 .f32) (x9 : Vec Ideal S256x2048 .bf16) :
    kernelRun1_A.sl.r_1 c arg3 harg3 arg10 harg10 arg11 harg11 x1 x8 x9 = kronIn x8 x1 x9 := by
  unfold kernelRun1_A.sl.r_1 kernelRun1_A.sl.r kronIn
  rw [load_all arg10 harg10 x8 _ (by decide), load_all arg3 harg3 x1 _ (by decide), load_all arg11 harg11 x9 _ (by decide)]

/-- The projection's stores are the slabs of `projG`. -/
theorem proj_tiles (c : Dev nD) (arg2 : Memref sig .tc .vmem S1x256x128x128 .f32) (harg2 : arg2.IsWhole) (arg3 : Memref sig .tc .vmem S16x256 .f32) (harg3 : arg3.IsWhole) (arg10 : Memref sig .tc .vmem S128x16 .f32) (harg10 : arg10.IsWhole) (arg11 : Memref sig .tc .vmem S256x2048 .bf16) (harg11 : arg11.IsWhole)
    (x0 : Vec Ideal S1x256x128x128 .f32) (x1 : Vec Ideal S16x256 .f32) (x8 : Vec Ideal S128x16 .f32) (x9 : Vec Ideal S256x2048 .bf16) :
    View.PiecesOf (projG (kronIn x8 x1 x9) x0) (kernelRun1_A.sl.HS0_16 c arg2 harg2 arg3 harg3 arg10 harg10 arg11 harg11 x0 x1 x8 x9) := by
  rw [← weights_in c arg3 harg3 arg10 harg10 arg11 harg11]
  unfold kernelRun1_A.sl.HS0_16
  exact ⟨projR_tile _ x0 120 rfl (by decide) _ _ _ (load_box arg2 harg2 x0 _),
    projL_tile _ x0 112 rfl (by decide) _ _ _ (load_box arg2 harg2 x0 _),
    projR_tile _ x0 104 rfl (by decide) _ _ _ (load_box arg2 harg2 x0 _),
    projL_tile _ x0 96 rfl (by decide) _ _ _ (load_box arg2 harg2 x0 _),
    projR_tile _ x0 88 rfl (by decide) _ _ _ (load_box arg2 harg2 x0 _),
    projL_tile _ x0 80 rfl (by decide) _ _ _ (load_box arg2 harg2 x0 _),
    projR_tile _ x0 72 rfl (by decide) _ _ _ (load_box arg2 harg2 x0 _),
    projL_tile _ x0 64 rfl (by decide) _ _ _ (load_box arg2 harg2 x0 _),
    projR_tile _ x0 56 rfl (by decide) _ _ _ (load_box arg2 harg2 x0 _),
    projL_tile _ x0 48 rfl (by decide) _ _ _ (load_box arg2 harg2 x0 _),
    projR_tile _ x0 40 rfl (by decide) _ _ _ (load_box arg2 harg2 x0 _),
    projL_tile _ x0 32 rfl (by decide) _ _ _ (load_box arg2 harg2 x0 _),
    projR_tile _ x0 24 rfl (by decide) _ _ _ (load_box arg2 harg2 x0 _),
    projL_tile _ x0 16 rfl (by decide) _ _ _ (load_box arg2 harg2 x0 _),
    projR_tile _ x0 8 rfl (by decide) _ _ _ (load_box arg2 harg2 x0 _),
    projL_tile _ x0 0 rfl (by decide) _ _ _ (load_box arg2 harg2 x0 _), trivial⟩
/-- They cover the scratch. -/
theorem proj_cover (c : Dev nD) (arg2 : Memref sig .tc .vmem S1x256x128x128 .f32) (harg2 : arg2.IsWhole) (arg3 : Memref sig .tc .vmem S16x256 .f32) (harg3 : arg3.IsWhole) (arg10 : Memref sig .tc .vmem S128x16 .f32) (harg10 : arg10.IsWhole) (arg11 : Memref sig .tc .vmem S256x2048 .bf16) (harg11 : arg11.IsWhole)
    (x0 : Vec Ideal S1x256x128x128 .f32) (x1 : Vec Ideal S16x256 .f32) (x8 : Vec Ideal S128x16 .f32) (x9 : Vec Ideal S256x2048 .bf16) (y : S16x128x128.Idx) :
    ∃ p ∈ kernelRun1_A.sl.HS0_16 (F := Ideal) c arg2 harg2 arg3 harg3 arg10 harg10 arg11 harg11 x0 x1 x8 x9, y ∈ p.1.set :=
  View.cover_of_tiledL (kernelRun1_A.sl.HS0_16 (F := Ideal) c arg2 harg2 arg3 harg3 arg10 harg10 arg11 harg11 x0 x1 x8 x9) S16x8x128.size (by sl_kernel_rfl) y

/-- A table's shape is cast to itself. -/
theorem table_ar (v : Vec Ideal S128x128 .bf16) : k1_pay34 v = v := by funext j; idx_vars j; pointwise [k1_pay34]
theorem table_ai (v : Vec Ideal S128x128 .bf16) : k1_pay35 v = v := by funext j; idx_vars j; pointwise [k1_pay35]
theorem table_br (v : Vec Ideal S128x128 .bf16) : k1_pay36 v = v := by funext j; idx_vars j; pointwise [k1_pay36]
theorem table_bi (v : Vec Ideal S128x128 .bf16) : k1_pay37 v = v := by funext j; idx_vars j; pointwise [k1_pay37]
theorem read_ar (c : Dev nD) (arg6 : Memref sig .tc .vmem S128x128 .bf16) (harg6 : arg6.IsWhole) (x4 : Vec Ideal S128x128 .bf16) : kernelRun1_A.sl.r_9 c arg6 harg6 x4 = x4 := by
  unfold kernelRun1_A.sl.r_9
  rw [table_ar, load_all arg6 harg6 x4 _ (by decide)]
theorem read_ai (c : Dev nD) (arg7 : Memref sig .tc .vmem S128x128 .bf16) (harg7 : arg7.IsWhole) (x5 : Vec Ideal S128x128 .bf16) : kernelRun1_A.sl.r_10 c arg7 harg7 x5 = x5 := by
  unfold kernelRun1_A.sl.r_10
  rw [table_ai, load_all arg7 harg7 x5 _ (by decide)]
theorem read_br (c : Dev nD) (arg8 : Memref sig .tc .vmem S128x128 .bf16) (harg8 : arg8.IsWhole) (x6 : Vec Ideal S128x128 .bf16) : kernelRun1_A.sl.r_11 c arg8 harg8 x6 = x6 := by
  unfold kernelRun1_A.sl.r_11
  rw [table_br, load_all arg8 harg8 x6 _ (by decide)]
theorem read_bi (c : Dev nD) (arg9 : Memref sig .tc .vmem S128x128 .bf16) (harg9 : arg9.IsWhole) (x7 : Vec Ideal S128x128 .bf16) : kernelRun1_A.sl.r_12 c arg9 harg9 x7 = x7 := by
  unfold kernelRun1_A.sl.r_12
  rw [table_bi, load_all arg9 harg9 x7 _ (by decide)]

/-- The enhanced channels an even point computes. -/
abbrev yG (x0 : Vec Ideal S1x256x128x128 .f32) (x1 : Vec Ideal S16x256 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) : S16x128x128.Idx → EReal := enhG x4 x5 x6 x7 x3 (projG (kronIn x8 x1 x9) x0)

/-- Channel `k` of the projection as the point reads it back, and of the gain. -/
abbrev pCh (c : Dev nD) (arg2 : Memref sig .tc .vmem S1x256x128x128 .f32) (harg2 : arg2.IsWhole) (arg3 : Memref sig .tc .vmem S16x256 .f32) (harg3 : arg3.IsWhole) (arg10 : Memref sig .tc .vmem S128x16 .f32) (harg10 : arg10.IsWhole) (arg11 : Memref sig .tc .vmem S256x2048 .bf16) (harg11 : arg11.IsWhole) (arg15 : Memref sig .tc .vmem S16x128x128 .bf16)
    (x0 : Vec Ideal S1x256x128x128 .f32) (x1 : Vec Ideal S16x256 .f32) (x8 : Vec Ideal S128x16 .f32) (x9 : Vec Ideal S256x2048 .bf16) (k : ℕ) (h : k < 16) : Vec Ideal S1x128x128 .bf16 :=
  arg15.view.readCov (kernelRun1_A.sl.HS0_16 c arg2 harg2 arg3 harg3 arg10 harg10 arg11 harg11 x0 x1 x8 x9) (Rect.unit (s := S16x128x128) ![k, 0, 0] S1x128x128.size (chan_inb k h)).toLoadRect
abbrev gCh (arg5 : Memref sig .tc .vmem S16x128x128 .f32) (harg5 : arg5.IsWhole) (x3 : Vec Ideal S16x128x128 .f32) (k : ℕ) (h : k < 16) : Vec Ideal S1x128x128 .f32 :=
  View.readAt (Elt Ideal) arg5.view (Rect.unit (s := S16x128x128) ![k, 0, 0] S1x128x128.size (chan_inb k h)).toLoadRect (harg5.unread x3)

/-- A pair of channels, stored. -/
theorem enh_pair (c : Dev nD) (arg2 : Memref sig .tc .vmem S1x256x128x128 .f32) (harg2 : arg2.IsWhole) (arg3 : Memref sig .tc .vmem S16x256 .f32) (harg3 : arg3.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg15 : Memref sig .tc .vmem S16x128x128 .bf16)
    (x0 : Vec Ideal S1x256x128x128 .f32) (x1 : Vec Ideal S16x256 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) (k : ℕ) (h : k + 1 < 16) :
    (∀ x, pairL (kernelRun1_A.sl.r_9 c arg6 harg6 x4) (kernelRun1_A.sl.r_10 c arg7 harg7 x5) (kernelRun1_A.sl.r_11 c arg8 harg8 x6) (kernelRun1_A.sl.r_12 c arg9 harg9 x7)
      (pCh c arg2 harg2 arg3 harg3 arg10 harg10 arg11 harg11 arg15 x0 x1 x8 x9 k (by omega)) (pCh c arg2 harg2 arg3 harg3 arg10 harg10 arg11 harg11 arg15 x0 x1 x8 x9 (k + 1) h) (gCh arg5 harg5 x3 k (by omega)) (gCh arg5 harg5 x3 (k + 1) h) x
      = yG x0 x1 x3 x4 x5 x6 x7 x8 x9 ((Rect.unit (s := S16x128x128) ![k, 0, 0] S1x128x128.size (chan_inb k (by omega))).emb x))
    ∧ (∀ x, pairR (kernelRun1_A.sl.r_9 c arg6 harg6 x4) (kernelRun1_A.sl.r_10 c arg7 harg7 x5) (kernelRun1_A.sl.r_11 c arg8 harg8 x6) (kernelRun1_A.sl.r_12 c arg9 harg9 x7)
      (pCh c arg2 harg2 arg3 harg3 arg10 harg10 arg11 harg11 arg15 x0 x1 x8 x9 k (by omega)) (pCh c arg2 harg2 arg3 harg3 arg10 harg10 arg11 harg11 arg15 x0 x1 x8 x9 (k + 1) h) (gCh arg5 harg5 x3 k (by omega)) (gCh arg5 harg5 x3 (k + 1) h) x
      = yG x0 x1 x3 x4 x5 x6 x7 x8 x9 ((Rect.unit (s := S16x128x128) ![k + 1, 0, 0] S1x128x128.size (chan_inb (k + 1) h)).emb x)) := by
  have hp := fun r => load_tiles arg15.view _ _ (proj_tiles c arg2 harg2 arg3 harg3 arg10 harg10 arg11 harg11 x0 x1 x8 x9) (proj_cover c arg2 harg2 arg3 harg3 arg10 harg10 arg11 harg11 x0 x1 x8 x9) r
  rw [read_ar c arg6 harg6 x4, read_ai c arg7 harg7 x5, read_br c arg8 harg8 x6, read_bi c arg9 harg9 x7]
  exact ⟨pairL_tile _ _ _ _ x3 _ k _ _ _ _ _ (hp _) (load_box arg5 harg5 x3 _), pairR_tile _ _ _ _ x3 _ (k + 1) _ _ _ _ _ (hp _) (load_box arg5 harg5 x3 _)⟩

/-- The enhanced channels' stores are the channels of `yG`. -/
theorem enh_tiles (c : Dev nD) (arg2 : Memref sig .tc .vmem S1x256x128x128 .f32) (harg2 : arg2.IsWhole) (arg3 : Memref sig .tc .vmem S16x256 .f32) (harg3 : arg3.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg15 : Memref sig .tc .vmem S16x128x128 .bf16)
    (x0 : Vec Ideal S1x256x128x128 .f32) (x1 : Vec Ideal S16x256 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) :
    View.PiecesOf (yG x0 x1 x3 x4 x5 x6 x7 x8 x9) (kernelRun1_A.sl.HS1_16 c arg2 harg2 arg3 harg3 arg5 harg5 arg6 harg6 arg7 harg7 arg8 harg8 arg9 harg9 arg10 harg10 arg11 harg11 arg15 x0 x1 x3 x4 x5 x6 x7 x8 x9) := by
  have hp := fun k h => enh_pair c arg2 harg2 arg3 harg3 arg5 harg5 arg6 harg6 arg7 harg7 arg8 harg8 arg9 harg9 arg10 harg10 arg11 harg11 arg15 x0 x1 x3 x4 x5 x6 x7 x8 x9 k h
  unfold kernelRun1_A.sl.HS1_16
  refine ⟨?_, ?_, ?_, ?_, ?_, ?_, ?_, ?_, ?_, ?_, ?_, ?_, ?_, ?_, ?_, ?_, trivial⟩
  · exact tile_of_eq (hp 14 (by omega)).2 (by sl_kernel_rfl)
  · exact tile_of_eq (hp 14 (by omega)).1 (by sl_kernel_rfl)
  · exact tile_of_eq (hp 12 (by omega)).2 (by sl_kernel_rfl)
  · exact tile_of_eq (hp 12 (by omega)).1 (by sl_kernel_rfl)
  · exact tile_of_eq (hp 10 (by omega)).2 (by sl_kernel_rfl)
  · exact tile_of_eq (hp 10 (by omega)).1 (by sl_kernel_rfl)
  · exact tile_of_eq (hp 8 (by omega)).2 (by sl_kernel_rfl)
  · exact tile_of_eq (hp 8 (by omega)).1 (by sl_kernel_rfl)
  · exact tile_of_eq (hp 6 (by omega)).2 (by sl_kernel_rfl)
  · exact tile_of_eq (hp 6 (by omega)).1 (by sl_kernel_rfl)
  · exact tile_of_eq (hp 4 (by omega)).2 (by sl_kernel_rfl)
  · exact tile_of_eq (hp 4 (by omega)).1 (by sl_kernel_rfl)
  · exact tile_of_eq (hp 2 (by omega)).2 (by sl_kernel_rfl)
  · exact tile_of_eq (hp 2 (by omega)).1 (by sl_kernel_rfl)
  · exact tile_of_eq (hp 0 (by omega)).2 (by sl_kernel_rfl)
  · exact tile_of_eq (hp 0 (by omega)).1 (by sl_kernel_rfl)
/-- They cover the scratch. -/
theorem enh_cover (c : Dev nD) (arg2 : Memref sig .tc .vmem S1x256x128x128 .f32) (harg2 : arg2.IsWhole) (arg3 : Memref sig .tc .vmem S16x256 .f32) (harg3 : arg3.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg15 : Memref sig .tc .vmem S16x128x128 .bf16)
    (x0 : Vec Ideal S1x256x128x128 .f32) (x1 : Vec Ideal S16x256 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) (y : S16x128x128.Idx) :
    ∃ p ∈ kernelRun1_A.sl.HS1_16 (F := Ideal) c arg2 harg2 arg3 harg3 arg5 harg5 arg6 harg6 arg7 harg7 arg8 harg8 arg9 harg9 arg10 harg10 arg11 harg11 arg15 x0 x1 x3 x4 x5 x6 x7 x8 x9, y ∈ p.1.set :=
  View.cover_of_tiledL (kernelRun1_A.sl.HS1_16 (F := Ideal) c arg2 harg2 arg3 harg3 arg5 harg5 arg6 harg6 arg7 harg7 arg8 harg8 arg9 harg9 arg10 harg10 arg11 harg11 arg15 x0 x1 x3 x4 x5 x6 x7 x8 x9) S1x128x128.size (by sl_kernel_rfl) y

/-- The weights the output's product replicates, at an even point and at an odd one. -/
theorem weights_outA (c : Dev nD) (arg4 : Memref sig .tc .vmem S128x16 .f32) (harg4 : arg4.IsWhole) (arg12 : Memref sig .tc .vmem S1024x128 .f32) (harg12 : arg12.IsWhole) (arg13 : Memref sig .tc .vmem S16x128 .bf16) (harg13 : arg13.IsWhole)
    (x2 : Vec Ideal S128x16 .f32) (x10 : Vec Ideal S1024x128 .f32) (x11 : Vec Ideal S16x128 .bf16) : kernelRun1_A.sl.r_41 c arg4 harg4 arg12 harg12 arg13 harg13 x2 x10 x11 = kronOut x10 x2 x11 := by
  unfold kernelRun1_A.sl.r_41 kernelRun1_A.sl.r_40 kronOut
  rw [load_all arg12 harg12 x10 _ (by decide), load_all arg4 harg4 x2 _ (by decide), load_all arg13 harg13 x11 _ (by decide)]
theorem weights_outB (c : Dev nD) (arg4 : Memref sig .tc .vmem S128x16 .f32) (harg4 : arg4.IsWhole) (arg12 : Memref sig .tc .vmem S1024x128 .f32) (harg12 : arg12.IsWhole) (arg13 : Memref sig .tc .vmem S16x128 .bf16) (harg13 : arg13.IsWhole)
    (x2 : Vec Ideal S128x16 .f32) (x10 : Vec Ideal S1024x128 .f32) (x11 : Vec Ideal S16x128 .bf16) : kernelRun1_B.sl.r_1 c arg4 harg4 arg12 harg12 arg13 harg13 x2 x10 x11 = kronOut x10 x2 x11 := by
  unfold kernelRun1_B.sl.r_1 kernelRun1_B.sl.r kronOut
  rw [load_all arg12 harg12 x10 _ (by decide), load_all arg4 harg4 x2 _ (by decide), load_all arg13 harg13 x11 _ (by decide)]

/-- The row offset into the input's channels, as the kernel computes it. -/
theorem half_offset (i : grid1.Coords) (h : Fin 2) (hi : (i 1).val = h.val) (o : ℕ) :
    (![0, (Scalar.indexCast (Scalar.muli (BitVec.ofNat 32 (i 1).val) 128#32)).toNat, o, 0] : Fin 4 → ℕ) = ![0, h.val * 128, o, 0] := by
  rw [hi]
  fin_cases h <;> rfl

/-- A slab's box lies in the output's block, and in the scratch. -/
theorem slab_inb (k : ℕ) (h : k + 8 ≤ 128) (d : Fin 4) : (![0, 0, k, 0] : Fin 4 → ℕ) d + S1x128x8x128.size d ≤ S1x128x128x128.size d := by
  fin_cases d
  · exact Nat.le_refl 1
  · exact Nat.le_refl 128
  · exact h
  · exact Nat.le_refl 128
theorem rows_inb (k : ℕ) (h : k + 8 ≤ 128) (d : Fin 3) : (![0, k, 0] : Fin 3 → ℕ) d + S16x8x128.size d ≤ S16x128x128.size d := by
  fin_cases d
  · exact Nat.le_refl 16
  · exact h
  · exact Nat.le_refl 128

/-- A pair of row slabs, stored, whatever the reads of the enhanced channels are as long as they read `p`. -/
theorem out_pair (i : grid1.Coords) (h : Fin 2) (hi : (i 1).val = h.val) (arg2 : Memref sig .tc .vmem S1x256x128x128 .f32) (harg2 : arg2.IsWhole) (x0 : Vec Ideal S1x256x128x128 .f32) (wk : FVec Ideal S1024x128 .bf16) (p : S16x128x128.Idx → EReal)
    (y : (k : ℕ) → k + 8 ≤ 128 → Vec Ideal S16x8x128 .bf16)
    (hy : ∀ k hk, y k hk = fun j => p ((Rect.unit (s := S16x128x128) ![0, k, 0] S16x8x128.size (rows_inb k hk)).emb j))
    (k : ℕ) (hk : k + 16 ≤ 128) (hk8 : k % 8 = 0) (oa ob : Fin 4 → ℕ)
    (ha : oa = ![0, (Scalar.indexCast (Scalar.muli (BitVec.ofNat 32 (i 1).val) 128#32)).toNat, k, 0])
    (hb : ob = ![0, (Scalar.indexCast (Scalar.muli (BitVec.ofNat 32 (i 1).val) 128#32)).toNat, k + 8, 0])
    (ia : ∀ d, oa d + S1x128x8x128.size d ≤ S1x256x128x128.size d) (ib : ∀ d, ob d + S1x128x8x128.size d ≤ S1x256x128x128.size d) :
    (∀ x, slabL wk (y k (by omega)) (y (k + 8) hk) (View.readAt (Elt Ideal) arg2.view (Rect.unit (s := S1x256x128x128) oa S1x128x8x128.size ia).toLoadRect (harg2.unread x0)) x
      = outG wk x0 p h ((Rect.unit (s := S1x128x128x128) ![0, 0, k, 0] S1x128x8x128.size (slab_inb k (by omega))).emb x))
    ∧ (∀ x, slabR wk (y k (by omega)) (y (k + 8) hk) (View.readAt (Elt Ideal) arg2.view (Rect.unit (s := S1x256x128x128) ob S1x128x8x128.size ib).toLoadRect (harg2.unread x0)) x
      = outG wk x0 p h ((Rect.unit (s := S1x128x128x128) ![0, 0, k + 8, 0] S1x128x8x128.size (slab_inb (k + 8) hk)).emb x)) :=
  ⟨slabL_tile wk x0 p h k hk8 _ _ oa (ha.trans (half_offset i h hi k)) ia _ _ _ (hy k _) (load_box arg2 harg2 x0 _),
    slabR_tile wk x0 p h (k + 8) (by omega) _ _ ob (hb.trans (half_offset i h hi (k + 8))) ib _ _ _ (hy (k + 8) _) (load_box arg2 harg2 x0 _)⟩

/-- The output's stores at an even point are the slabs of `outG`. -/
theorem outA_tiles (c : Dev nD) (i : grid1.Coords) (h : Fin 2) (hi : (i 1).val = h.val) (arg2 : Memref sig .tc .vmem S1x256x128x128 .f32) (harg2 : arg2.IsWhole) (arg3 : Memref sig .tc .vmem S16x256 .f32) (harg3 : arg3.IsWhole) (arg4 : Memref sig .tc .vmem S128x16 .f32) (harg4 : arg4.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg12 : Memref sig .tc .vmem S1024x128 .f32) (harg12 : arg12.IsWhole) (arg13 : Memref sig .tc .vmem S16x128 .bf16) (harg13 : arg13.IsWhole) (arg14 : Memref sig .tc .vmem S1x128x128x128 .f32) (harg14 : arg14.IsWhole) (arg15 : Memref sig .tc .vmem S16x128x128 .bf16) (harg15 : arg15.IsWhole) (arg16 : Memref sig .tc .vmem S16x128x128 .bf16) (harg16 : arg16.IsWhole) (hc0 : condA i)
    (x0 : Vec Ideal S1x256x128x128 .f32) (x1 : Vec Ideal S16x256 .f32) (x2 : Vec Ideal S128x16 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) (x10 : Vec Ideal S1024x128 .f32) (x11 : Vec Ideal S16x128 .bf16) :
    View.PiecesOf (outG (kronOut x10 x2 x11) x0 (yG x0 x1 x3 x4 x5 x6 x7 x8 x9) h) (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 := by
  have hp := out_pair i h hi arg2 harg2 x0 (kernelRun1_A.sl.r_41 c arg4 harg4 arg12 harg12 arg13 harg13 x2 x10 x11) (yG x0 x1 x3 x4 x5 x6 x7 x8 x9)
    (fun k hk => arg16.view.readCov (kernelRun1_A.sl.HS1_16 c arg2 harg2 arg3 harg3 arg5 harg5 arg6 harg6 arg7 harg7 arg8 harg8 arg9 harg9 arg10 harg10 arg11 harg11 arg15 x0 x1 x3 x4 x5 x6 x7 x8 x9) (Rect.unit (s := S16x128x128) ![0, k, 0] S16x8x128.size (rows_inb k hk)).toLoadRect)
    (fun k hk => load_tiles arg16.view _ _ (enh_tiles c arg2 harg2 arg3 harg3 arg5 harg5 arg6 harg6 arg7 harg7 arg8 harg8 arg9 harg9 arg10 harg10 arg11 harg11 arg15 x0 x1 x3 x4 x5 x6 x7 x8 x9) (enh_cover c arg2 harg2 arg3 harg3 arg5 harg5 arg6 harg6 arg7 harg7 arg8 harg8 arg9 harg9 arg10 harg10 arg11 harg11 arg15 x0 x1 x3 x4 x5 x6 x7 x8 x9) _)
  rw [← weights_outA c arg4 harg4 arg12 harg12 arg13 harg13]
  unfold kernelRun1_A
  refine ⟨?_, ?_, ?_, ?_, ?_, ?_, ?_, ?_, ?_, ?_, ?_, ?_, ?_, ?_, ?_, ?_, trivial⟩
  · exact tile_of_eq (hp 112 (by omega) rfl (k1_off15 i) (k1_off16 i) rfl rfl (k1_off15_inb i) (k1_off16_inb i)).2 (by sl_kernel_rfl)
  · exact tile_of_eq (hp 112 (by omega) rfl (k1_off15 i) (k1_off16 i) rfl rfl (k1_off15_inb i) (k1_off16_inb i)).1 (by sl_kernel_rfl)
  · exact tile_of_eq (hp 96 (by omega) rfl (k1_off13 i) (k1_off14 i) rfl rfl (k1_off13_inb i) (k1_off14_inb i)).2 (by sl_kernel_rfl)
  · exact tile_of_eq (hp 96 (by omega) rfl (k1_off13 i) (k1_off14 i) rfl rfl (k1_off13_inb i) (k1_off14_inb i)).1 (by sl_kernel_rfl)
  · exact tile_of_eq (hp 80 (by omega) rfl (k1_off11 i) (k1_off12 i) rfl rfl (k1_off11_inb i) (k1_off12_inb i)).2 (by sl_kernel_rfl)
  · exact tile_of_eq (hp 80 (by omega) rfl (k1_off11 i) (k1_off12 i) rfl rfl (k1_off11_inb i) (k1_off12_inb i)).1 (by sl_kernel_rfl)
  · exact tile_of_eq (hp 64 (by omega) rfl (k1_off9 i) (k1_off10 i) rfl rfl (k1_off9_inb i) (k1_off10_inb i)).2 (by sl_kernel_rfl)
  · exact tile_of_eq (hp 64 (by omega) rfl (k1_off9 i) (k1_off10 i) rfl rfl (k1_off9_inb i) (k1_off10_inb i)).1 (by sl_kernel_rfl)
  · exact tile_of_eq (hp 48 (by omega) rfl (k1_off7 i) (k1_off8 i) rfl rfl (k1_off7_inb i) (k1_off8_inb i)).2 (by sl_kernel_rfl)
  · exact tile_of_eq (hp 48 (by omega) rfl (k1_off7 i) (k1_off8 i) rfl rfl (k1_off7_inb i) (k1_off8_inb i)).1 (by sl_kernel_rfl)
  · exact tile_of_eq (hp 32 (by omega) rfl (k1_off5 i) (k1_off6 i) rfl rfl (k1_off5_inb i) (k1_off6_inb i)).2 (by sl_kernel_rfl)
  · exact tile_of_eq (hp 32 (by omega) rfl (k1_off5 i) (k1_off6 i) rfl rfl (k1_off5_inb i) (k1_off6_inb i)).1 (by sl_kernel_rfl)
  · exact tile_of_eq (hp 16 (by omega) rfl (k1_off3 i) (k1_off4 i) rfl rfl (k1_off3_inb i) (k1_off4_inb i)).2 (by sl_kernel_rfl)
  · exact tile_of_eq (hp 16 (by omega) rfl (k1_off3 i) (k1_off4 i) rfl rfl (k1_off3_inb i) (k1_off4_inb i)).1 (by sl_kernel_rfl)
  · exact tile_of_eq (hp 0 (by omega) rfl (k1_off1 i) (k1_off2 i) rfl rfl (k1_off1_inb i) (k1_off2_inb i)).2 (by sl_kernel_rfl)
  · exact tile_of_eq (hp 0 (by omega) rfl (k1_off1 i) (k1_off2 i) rfl rfl (k1_off1_inb i) (k1_off2_inb i)).1 (by sl_kernel_rfl)
/-- And at an odd one, over what the scratch holds. -/
theorem outB_tiles (c : Dev nD) (i : grid1.Coords) (h : Fin 2) (hi : (i 1).val = h.val) (arg2 : Memref sig .tc .vmem S1x256x128x128 .f32) (harg2 : arg2.IsWhole) (arg3 : Memref sig .tc .vmem S16x256 .f32) (harg3 : arg3.IsWhole) (arg4 : Memref sig .tc .vmem S128x16 .f32) (harg4 : arg4.IsWhole) (arg5 : Memref sig .tc .vmem S16x128x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16 .f32) (harg10 : arg10.IsWhole) (arg11 : Memref sig .tc .vmem S256x2048 .bf16) (harg11 : arg11.IsWhole) (arg12 : Memref sig .tc .vmem S1024x128 .f32) (harg12 : arg12.IsWhole) (arg13 : Memref sig .tc .vmem S16x128 .bf16) (harg13 : arg13.IsWhole) (arg14 : Memref sig .tc .vmem S1x128x128x128 .f32) (harg14 : arg14.IsWhole) (arg15 : Memref sig .tc .vmem S16x128x128 .bf16) (harg15 : arg15.IsWhole) (arg16 : Memref sig .tc .vmem S16x128x128 .bf16) (harg16 : arg16.IsWhole) (hc0 : ¬ condA i)
    (x0 : Vec Ideal S1x256x128x128 .f32) (x1 : Vec Ideal S16x256 .f32) (x2 : Vec Ideal S128x16 .f32) (x3 : Vec Ideal S16x128x128 .f32) (x4 : Vec Ideal S128x128 .bf16) (x5 : Vec Ideal S128x128 .bf16) (x6 : Vec Ideal S128x128 .bf16) (x7 : Vec Ideal S128x128 .bf16) (x8 : Vec Ideal S128x16 .f32) (x9 : Vec Ideal S256x2048 .bf16) (x10 : Vec Ideal S1024x128 .f32) (x11 : Vec Ideal S16x128 .bf16) (xs1 : Vec Ideal S16x128x128 .bf16) :
    View.PiecesOf (outG (kronOut x10 x2 x11) x0 xs1 h) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs1).1 := by
  have hp := out_pair i h hi arg2 harg2 x0 (kernelRun1_B.sl.r_1 c arg4 harg4 arg12 harg12 arg13 harg13 x2 x10 x11) xs1
    (fun k hk => View.readAt (Elt Ideal) arg16.view (Rect.unit (s := S16x128x128) ![0, k, 0] S16x8x128.size (rows_inb k hk)).toLoadRect (harg16.unread xs1))
    (fun k hk => load_box arg16 harg16 xs1 _)
  rw [← weights_outB c arg4 harg4 arg12 harg12 arg13 harg13]
  unfold kernelRun1_B
  refine ⟨?_, ?_, ?_, ?_, ?_, ?_, ?_, ?_, ?_, ?_, ?_, ?_, ?_, ?_, ?_, ?_, trivial⟩
  · exact tile_of_eq (hp 112 (by omega) rfl (k1_off15 i) (k1_off16 i) rfl rfl (k1_off15_inb i) (k1_off16_inb i)).2 (by sl_kernel_rfl)
  · exact tile_of_eq (hp 112 (by omega) rfl (k1_off15 i) (k1_off16 i) rfl rfl (k1_off15_inb i) (k1_off16_inb i)).1 (by sl_kernel_rfl)
  · exact tile_of_eq (hp 96 (by omega) rfl (k1_off13 i) (k1_off14 i) rfl rfl (k1_off13_inb i) (k1_off14_inb i)).2 (by sl_kernel_rfl)
  · exact tile_of_eq (hp 96 (by omega) rfl (k1_off13 i) (k1_off14 i) rfl rfl (k1_off13_inb i) (k1_off14_inb i)).1 (by sl_kernel_rfl)
  · exact tile_of_eq (hp 80 (by omega) rfl (k1_off11 i) (k1_off12 i) rfl rfl (k1_off11_inb i) (k1_off12_inb i)).2 (by sl_kernel_rfl)
  · exact tile_of_eq (hp 80 (by omega) rfl (k1_off11 i) (k1_off12 i) rfl rfl (k1_off11_inb i) (k1_off12_inb i)).1 (by sl_kernel_rfl)
  · exact tile_of_eq (hp 64 (by omega) rfl (k1_off9 i) (k1_off10 i) rfl rfl (k1_off9_inb i) (k1_off10_inb i)).2 (by sl_kernel_rfl)
  · exact tile_of_eq (hp 64 (by omega) rfl (k1_off9 i) (k1_off10 i) rfl rfl (k1_off9_inb i) (k1_off10_inb i)).1 (by sl_kernel_rfl)
  · exact tile_of_eq (hp 48 (by omega) rfl (k1_off7 i) (k1_off8 i) rfl rfl (k1_off7_inb i) (k1_off8_inb i)).2 (by sl_kernel_rfl)
  · exact tile_of_eq (hp 48 (by omega) rfl (k1_off7 i) (k1_off8 i) rfl rfl (k1_off7_inb i) (k1_off8_inb i)).1 (by sl_kernel_rfl)
  · exact tile_of_eq (hp 32 (by omega) rfl (k1_off5 i) (k1_off6 i) rfl rfl (k1_off5_inb i) (k1_off6_inb i)).2 (by sl_kernel_rfl)
  · exact tile_of_eq (hp 32 (by omega) rfl (k1_off5 i) (k1_off6 i) rfl rfl (k1_off5_inb i) (k1_off6_inb i)).1 (by sl_kernel_rfl)
  · exact tile_of_eq (hp 16 (by omega) rfl (k1_off3 i) (k1_off4 i) rfl rfl (k1_off3_inb i) (k1_off4_inb i)).2 (by sl_kernel_rfl)
  · exact tile_of_eq (hp 16 (by omega) rfl (k1_off3 i) (k1_off4 i) rfl rfl (k1_off3_inb i) (k1_off4_inb i)).1 (by sl_kernel_rfl)
  · exact tile_of_eq (hp 0 (by omega) rfl (k1_off1 i) (k1_off2 i) rfl rfl (k1_off1_inb i) (k1_off2_inb i)).2 (by sl_kernel_rfl)
  · exact tile_of_eq (hp 0 (by omega) rfl (k1_off1 i) (k1_off2 i) rfl rfl (k1_off1_inb i) (k1_off2_inb i)).1 (by sl_kernel_rfl)

end Cert.KernelIdeal.Hand

end
-- ==== Proof.Ideal.Sums.lean ====
/-
  The arithmetic that relates the two programs, over the extended reals: a sum against a matrix that is zero off its
  blocks' diagonals, a sum against rows of zeros with a single one, and the two transforms' frequency shifts.
-/
module

public import proofs.«01_k».proof.Proof.Ideal.Ops

@[expose] public section

noncomputable section

namespace Cert.KernelIdeal.Hand

/-- A sum over `n * d` places, `n` groups of `d`. -/
theorem sum_groups {N : ℕ} (n d : ℕ) (hN : N = n * d) (hd : 0 < d) (f : Fin N → EReal) :
    ∑ q, f q = ∑ a : Fin n, ∑ t : Fin d, f ⟨a.val * d + t.val, by
      have h1 := a.isLt; have h2 := t.isLt
      have h3 : (a.val + 1) * d ≤ n * d := Nat.mul_le_mul_right d h1
      rw [Nat.succ_mul] at h3; omega⟩ := by
  subst hN
  rw [← Fintype.sum_prod_type', ← Equiv.sum_comp finProdFinEquiv]
  refine Finset.sum_congr rfl fun x _ => congrArg f (Fin.ext ?_)
  show x.2.val + d * x.1.val = x.1.val * d + x.2.val
  rw [Nat.mul_comm, Nat.add_comm]

/-- A sum with one term that is not zero. -/
theorem sum_one {n : ℕ} (r : Fin n) (f : Fin n → EReal) : ∑ t, f t * (if r = t then 1 else 0) = f r := by
  rw [Finset.sum_eq_single r]
  · rw [if_pos rfl, mul_one]
  · intro t _ h; rw [if_neg (Ne.symm h), mul_zero]
  · intro h; exact absurd (Finset.mem_univ r) h

/-- A product against a matrix whose blocks of eight are `w` on the diagonal and zero off it: one term a block. -/
theorem sum_diag {N : ℕ} (n : ℕ) (hN : N = n * 8) (w : Fin n → EReal) (r : Fin 8) (g : Fin n → Fin 8 → EReal) :
    ∑ q : Fin N, (w ⟨q.val / 8, by omega⟩ * (if r.val = q.val % 8 then 1 else 0)) * g ⟨q.val / 8, by omega⟩ ⟨q.val % 8, by omega⟩ = ∑ a, w a * g a r := by
  rw [sum_groups n 8 hN (by decide)]
  refine Finset.sum_congr rfl fun a _ => ?_
  rw [← sum_one r (fun t => w a * g a t)]
  refine Finset.sum_congr rfl fun t _ => ?_
  have e1 : (a.val * 8 + t.val) / 8 = a.val := by have := t.isLt; omega
  have e2 : (a.val * 8 + t.val) % 8 = t.val := by have := t.isLt; omega
  simp only [e1, e2, Fin.eta, Fin.ext_iff]
  rw [mul_assoc, mul_assoc, mul_comm (ite _ _ _)]

/-- A sum against the numbers of a table whose rows are zero but for one place. -/
theorem sum_row {n : ℕ} (r : Fin n) (f : Fin n → EReal) : ∑ t : Fin n, (if r.val = t.val then 1 else 0) * f t = f r := by
  rw [← sum_one r f]
  refine Finset.sum_congr rfl fun t _ => ?_
  simp only [Fin.ext_iff]; rw [mul_comm]
theorem sum_col {n : ℕ} (r : Fin n) (f : Fin n → EReal) : ∑ t : Fin n, f t * (if r.val = t.val then 1 else 0) = f r := by
  rw [← sum_row r f]
  exact Finset.sum_congr rfl fun t _ => mul_comm _ _

/-- The place half the length away. -/
def opp (k : Fin 128) : Fin 128 := ⟨(k.val + 64) % 128, Nat.mod_lt _ (by decide)⟩
theorem opp_opp (k : Fin 128) : opp (opp k) = k := Fin.ext (by show ((k.val + 64) % 128 + 64) % 128 = k.val; omega)
theorem sum_opp (f : Fin 128 → EReal) : ∑ k, f (opp k) = ∑ k, f k := Equiv.sum_comp ⟨opp, opp, opp_opp, opp_opp⟩ f

/-- The two-dimensional transform of a real matrix by the matrix `fr + i fi`, real and imaginary part, -/
def dftRe (fr fi p : Mat) : Mat := fwdRe fr fi (fun w l => fr l w) (fun w l => fi l w) p
def dftIm (fr fi p : Mat) : Mat := fwdIm fr fi (fun w l => fr l w) (fun w l => fi l w) p
/-- and the real part of the transform by the conjugate on both sides. -/
def idftRe (fr fi er ei : Mat) : Mat := bwdRe fr fi (fun w l => fr l w) (fun w l => fi l w) er ei

/-- The enhancement as the reference has it: the spectrum, the gain at its shifted place, and back. -/
def enhanceRef (fr fi g p : Mat) : Mat :=
  idftRe fr fi (fun k l => g (opp k) (opp l) * dftRe fr fi p k l) (fun k l => g (opp k) (opp l) * dftIm fr fi p k l)

/-- With its tables' rows shifted by half the length the kernel's enhancement is the reference's. -/
theorem enhance_shift (fr fi g p : Mat) :
    enhance (fun k h => fr (opp k) h) (fun k h => fi (opp k) h) (fun w l => fr (opp l) w) (fun w l => fi (opp l) w) g p = enhanceRef fr fi g p := by
  have inner (f : Mat) (g' E : Mat) (h l : Fin 128) :
      ∑ k, f (opp k) h * (g' k l * E (opp k) (opp l)) = ∑ k, f k h * (g' (opp k) (opp (opp l)) * E k (opp l)) := by
    rw [← sum_opp (fun k => f k h * (g' (opp k) (opp (opp l)) * E k (opp l)))]
    simp only [opp_opp]
  funext h w
  show (∑ l, (∑ k, fr (opp k) h * (g k l * dftRe fr fi p (opp k) (opp l)) + ∑ k, fi (opp k) h * (g k l * dftIm fr fi p (opp k) (opp l))) * fr (opp l) w)
      + (∑ l, (∑ k, fr (opp k) h * (g k l * dftIm fr fi p (opp k) (opp l)) - ∑ k, fi (opp k) h * (g k l * dftRe fr fi p (opp k) (opp l))) * fi (opp l) w) = _
  simp only [inner]
  rw [sum_opp (fun l => (∑ k, fr k h * (g (opp k) (opp l) * dftRe fr fi p k l) + ∑ k, fi k h * (g (opp k) (opp l) * dftIm fr fi p k l)) * fr l w),
    sum_opp (fun l => (∑ k, fr k h * (g (opp k) (opp l) * dftIm fr fi p k l) - ∑ k, fi k h * (g (opp k) (opp l) * dftRe fr fi p k l)) * fi l w)]
  rfl

/-- The gain as the kernel sums it, over angles and radii with a zero at every radius but `r`, is the sum over the angles at radius `r`. -/
theorem gain_sum (b : Fin 8 → Fin 9 → EReal) (a : Fin 8 → EReal) (r : Fin 9) :
    ∑ q : Fin 72, b ⟨q.val / 9, by omega⟩ ⟨q.val % 9, by omega⟩ * (a ⟨q.val / 9, by omega⟩ * (if r.val = q.val % 9 then 1 else 0)) = ∑ i, b i r * a i := by
  rw [sum_groups 8 9 rfl (by decide)]
  refine Finset.sum_congr rfl fun i _ => ?_
  rw [← sum_one r (fun t => b i t * a i)]
  refine Finset.sum_congr rfl fun t _ => ?_
  have e1 : (i.val * 9 + t.val) / 9 = i.val := by have := t.isLt; omega
  have e2 : (i.val * 9 + t.val) % 9 = t.val := by have := t.isLt; omega
  simp only [e1, e2, Fin.eta, Fin.ext_iff]
  rw [mul_assoc]

end Cert.KernelIdeal.Hand

end
-- ==== Proof.Ideal.Arrays.lean ====
/-
  The enhancement call's array after the run, as one function of the arrays it was entered with, when the call's
  four replication tables hold what their names say.
-/
module

public import proofs.«01_k».proof.Proof.Ideal.Points
public import proofs.«01_k».proof.Proof.Ideal.Sums
public import Idealize.ShloMosaic.Lib.Pipeline.ValueKit.Point

public section

set_option maxRecDepth 16384

noncomputable section

namespace Cert.KernelIdeal.Hand

open Cert.KernelIdeal.Gen
open Idealize.ShloMosaic Idealize.ShloMosaic.TcCoe
open Idealize.ShloMosaic.Pipeline (Dat Cfg Window)

/-- The replicated input weights: `w_in`'s entries on the blocks' diagonals. -/
theorem kronIn_diag (sri : Vec Ideal S128x16 .f32) (win : Vec Ideal S16x256 .f32) (sci : Vec Ideal S256x2048 .bf16)
    (h1 : ∀ p m, sri (ix2 p m) = if p.val / 8 = m.val then 1 else 0) (h2 : ∀ a q, sci (ix2 a q) = if q.val / 8 = a.val then 1 else 0) (m : Fin 16) (r : Fin 8) (q : Fin 2048) :
    kronIn (F := Ideal) sri win sci (ix2 ⟨m.val * 8 + r.val, by omega⟩ q) = win (ix2 m ⟨q.val / 8, by omega⟩) * (if r.val = q.val % 8 then 1 else 0) := by
  rw [kronIn_apply]
  have e1 : (m.val * 8 + r.val) / 8 = m.val := by have := r.isLt; omega
  have e2 : (m.val * 8 + r.val) % 8 = r.val := by have := r.isLt; omega
  simp only [h1, h2, e1, e2]
  simp only [sum_row m]
  rw [sum_col (⟨q.val / 8, by omega⟩ : Fin 256) (fun a => win (ix2 m a))]

/-- The projection: a sum over the input's channels. -/
theorem proj_sum (sri : Vec Ideal S128x16 .f32) (win : Vec Ideal S16x256 .f32) (sci : Vec Ideal S256x2048 .bf16)
    (h1 : ∀ p m, sri (ix2 p m) = if p.val / 8 = m.val then 1 else 0) (h2 : ∀ a q, sci (ix2 a q) = if q.val / 8 = a.val then 1 else 0)
    (x0 : Vec Ideal S1x256x128x128 .f32) (m : Fin 16) (h w : Fin 128) :
    projG (kronIn (F := Ideal) sri win sci) x0 (ix3 m h w) = ∑ a : Fin 256, win (ix2 m a) * x0 (ix4 0 a h w) := by
  refine (Finset.sum_congr rfl fun q _ => congrArg (· * _) (kronIn_diag sri win sci h1 h2 m ⟨h.val % 8, by omega⟩ q)).trans ?_
  refine (sum_diag 256 rfl (fun a => win (ix2 m a)) ⟨h.val % 8, by omega⟩ (fun a t => x0 (ix4 0 a ⟨h.val / 8 * 8 + t.val, by omega⟩ w))).trans ?_
  refine Finset.sum_congr rfl fun a _ => ?_
  congr 3; apply Fin.ext
  show h.val / 8 * 8 + h.val % 8 = h.val
  omega

/-- The replicated output weights, -/
theorem kronOut_diag (sro : Vec Ideal S1024x128 .f32) (wout : Vec Ideal S128x16 .f32) (sco : Vec Ideal S16x128 .bf16)
    (h1 : ∀ p m, sro (ix2 p m) = if p.val / 8 = m.val then 1 else 0) (h2 : ∀ a q, sco (ix2 a q) = if q.val / 8 = a.val then 1 else 0) (o : Fin 128) (r : Fin 8) (q : Fin 128) :
    kronOut (F := Ideal) sro wout sco (ix2 ⟨o.val * 8 + r.val, by omega⟩ q) = wout (ix2 o ⟨q.val / 8, by omega⟩) * (if r.val = q.val % 8 then 1 else 0) := by
  rw [kronOut_apply]
  have e1 : (o.val * 8 + r.val) / 8 = o.val := by have := r.isLt; omega
  have e2 : (o.val * 8 + r.val) % 8 = r.val := by have := r.isLt; omega
  simp only [h1, h2, e1, e2]
  simp only [sum_row o]
  rw [sum_col (⟨q.val / 8, by omega⟩ : Fin 16) (fun a => wout (ix2 o a))]

/-- and the output: a sum over the middle channels, on top of the input's row. -/
theorem out_sum (sro : Vec Ideal S1024x128 .f32) (wout : Vec Ideal S128x16 .f32) (sco : Vec Ideal S16x128 .bf16)
    (h1 : ∀ p m, sro (ix2 p m) = if p.val / 8 = m.val then 1 else 0) (h2 : ∀ a q, sco (ix2 a q) = if q.val / 8 = a.val then 1 else 0)
    (x0 : Vec Ideal S1x256x128x128 .f32) (p : S16x128x128.Idx → EReal) (k : Fin 2) (z : Fin 1) (o h w : Fin 128) :
    outG (kronOut (F := Ideal) sro wout sco) x0 p k (ix4 z o h w)
      = x0 (ix4 0 ⟨k.val * 128 + o.val, by omega⟩ h w) + ∑ m : Fin 16, wout (ix2 o m) * p (ix3 m h w) := by
  refine congrArg (_ + ·) ?_
  refine (Finset.sum_congr rfl fun q _ => congrArg (· * _) (kronOut_diag sro wout sco h1 h2 o ⟨h.val % 8, by omega⟩ q)).trans ?_
  refine (sum_diag 16 rfl (fun a => wout (ix2 o a)) ⟨h.val % 8, by omega⟩ (fun a t => p (ix3 a ⟨h.val / 8 * 8 + t.val, by omega⟩ w))).trans ?_
  refine Finset.sum_congr rfl fun a _ => ?_
  congr 3; apply Fin.ext
  show h.val / 8 * 8 + h.val % 8 = h.val
  omega

variable (W : Dev nD → Valuation τ sig (Elt Ideal)) (c : Dev nD)

/-! ### What the windows hold -/

theorem index1_0 : ∀ t : Fin cfg1.N, win1_0.index t = ![t.val / 2, 0, 0, 0] :=
  (by decide +kernel : ∀ t : Fin grid1.N, win1_0.index t = ![t.val / 2, 0, 0, 0])
theorem index1_2 : ∀ t : Fin cfg1.N, win1_2.index t = ![t.val % 2, 0] :=
  (by decide +kernel : ∀ t : Fin grid1.N, win1_2.index t = ![t.val % 2, 0])
theorem index1_12 : ∀ t : Fin cfg1.N, win1_12.index t = ![t.val / 2, t.val % 2, 0, 0] :=
  (by decide +kernel : ∀ t : Fin grid1.N, win1_12.index t = ![t.val / 2, t.val % 2, 0, 0])
theorem index1_whole : ∀ t : Fin cfg1.N, win1_1.index t = ![0, 0] ∧ win1_3.index t = ![0, 0, 0] ∧ win1_4.index t = ![0, 0] ∧ win1_5.index t = ![0, 0]
    ∧ win1_6.index t = ![0, 0] ∧ win1_7.index t = ![0, 0] ∧ win1_8.index t = ![0, 0] ∧ win1_9.index t = ![0, 0] ∧ win1_10.index t = ![0, 0] ∧ win1_11.index t = ![0, 0] :=
  (by decide +kernel : ∀ t : Fin grid1.N, _)

/-- The arrays by name. -/
abbrev aX : Vec Ideal S8x256x128x128 .f32 := W c (Proc.devRef .tc main_arg0)
abbrev aWin : Vec Ideal S16x256 .f32 := W c (Proc.devRef .tc main_arg1)
abbrev aWout : Vec Ideal S256x16 .f32 := W c (Proc.devRef .tc main_arg2)
abbrev aGain : Vec Ideal S16x128x128 .f32 := W c (Proc.devRef .tc main_v134)
abbrev aAr : Vec Ideal S128x128 .bf16 := W c (Proc.devRef .tc main_v63)
abbrev aAi : Vec Ideal S128x128 .bf16 := W c (Proc.devRef .tc main_v64)
abbrev aBr : Vec Ideal S128x128 .bf16 := W c (Proc.devRef .tc main_v66)
abbrev aBi : Vec Ideal S128x128 .bf16 := W c (Proc.devRef .tc main_v68)
abbrev aSri : Vec Ideal S128x16 .f32 := W c (Proc.devRef .tc main_v28)
abbrev aSci : Vec Ideal S256x2048 .bf16 := W c (Proc.devRef .tc main_v40)
abbrev aSro : Vec Ideal S1024x128 .f32 := W c (Proc.devRef .tc main_v50)
abbrev aSco : Vec Ideal S16x128 .bf16 := W c (Proc.devRef .tc main_v62)

theorem iblk_0 (t : Fin cfg1.N) (z : Fin 1) (a : Fin 256) (h w : Fin 128) :
    iblk W c 0 t (ix4 z a h w) = aX W c (ix4 ⟨t.val / 2, by have : t.val < 16 := lt_of_lt_of_eq t.isLt N_1; omega⟩ a h w) := by
  blk_simp [iblk]
  blk_ext [index1_0 t]
theorem iblk_2 (t : Fin cfg1.N) (o : Fin 128) (m : Fin 16) :
    iblk W c 2 t (ix2 o m) = aWout W c (ix2 ⟨t.val % 2 * 128 + o.val, by omega⟩ m) := by
  blk_simp [iblk]
  blk_ext [index1_2 t]
theorem iblk_1 (t : Fin cfg1.N) : iblk W c 1 t = aWin W c := by
  funext y; have e := (index1_whole t).1; blk_simp [iblk]; blk_ext [e]
theorem iblk_3 (t : Fin cfg1.N) : iblk W c 3 t = aGain W c := by
  funext y; have e := (index1_whole t).2.1; blk_simp [iblk]; blk_ext [e]
theorem iblk_4 (t : Fin cfg1.N) : iblk W c 4 t = aAr W c := by
  funext y; have e := (index1_whole t).2.2.1; blk_simp [iblk]; blk_ext [e]
theorem iblk_5 (t : Fin cfg1.N) : iblk W c 5 t = aAi W c := by
  funext y; have e := (index1_whole t).2.2.2.1; blk_simp [iblk]; blk_ext [e]
theorem iblk_6 (t : Fin cfg1.N) : iblk W c 6 t = aBr W c := by
  funext y; have e := (index1_whole t).2.2.2.2.1; blk_simp [iblk]; blk_ext [e]
theorem iblk_7 (t : Fin cfg1.N) : iblk W c 7 t = aBi W c := by
  funext y; have e := (index1_whole t).2.2.2.2.2.1; blk_simp [iblk]; blk_ext [e]
theorem iblk_8 (t : Fin cfg1.N) : iblk W c 8 t = aSri W c := by
  funext y; have e := (index1_whole t).2.2.2.2.2.2.1; blk_simp [iblk]; blk_ext [e]
theorem iblk_9 (t : Fin cfg1.N) : iblk W c 9 t = aSci W c := by
  funext y; have e := (index1_whole t).2.2.2.2.2.2.2.1; blk_simp [iblk]; blk_ext [e]
theorem iblk_10 (t : Fin cfg1.N) : iblk W c 10 t = aSro W c := by
  funext y; have e := (index1_whole t).2.2.2.2.2.2.2.2.1; blk_simp [iblk]; blk_ext [e]
theorem iblk_11 (t : Fin cfg1.N) : iblk W c 11 t = aSco W c := by
  funext y; have e := (index1_whole t).2.2.2.2.2.2.2.2.2; blk_simp [iblk]; blk_ext [e]

/-- The second grid coordinate is the output's half. -/
def half (t : Fin cfg1.N) : Fin 2 := ⟨t.val % 2, Nat.mod_lt _ (by decide)⟩
theorem half_coord (t : Fin cfg1.N) : (grid1.coords t 1).val = (half t).val := by
  have ht : t.val < 16 := lt_of_lt_of_eq t.isLt N_1
  have e1 : (grid1.coords t 1).val = t.val / 1 % 2 := Pipeline.Grid.coords_val t 1 (by decide) rfl
  rw [e1]
  show t.val / 1 % 2 = t.val % 2
  rw [Nat.div_one]

/-! ### What each point leaves -/

/-- The enhanced channels of the batch entry at point `t`, as an even point leaves them in the scratch. -/
def yGp (t : Fin cfg1.N) : S16x128x128.Idx → EReal :=
  yG (iblk W c 0 t) (iblk W c 1 t) (iblk W c 3 t) (iblk W c 4 t) (iblk W c 5 t) (iblk W c 6 t) (iblk W c 7 t) (iblk W c 8 t) (iblk W c 9 t)

theorem yA_eq (t : Fin cfg1.N) (h : t.val % 2 = 0) : yA W c t h = yGp W c t := by
  unfold yA yGp
  exact read_tiles _ _ _ (enh_tiles c _ _ _ _ _ _ _ _ _ _ _ _ _ _ _ _ _ _ _ _ _ _ _ _ _ _ _ _) (scoverA W c t h)
theorem outA_eq (t : Fin cfg1.N) (h : t.val % 2 = 0) :
    outA W c t h = outG (kronOut (F := Ideal) (iblk W c 10 t) (iblk W c 2 t) (iblk W c 11 t)) (iblk W c 0 t) (yGp W c t) (half t) := by
  unfold outA yGp
  exact read_tiles _ _ _ (outA_tiles c _ (half t) (half_coord t) _ _ _ _ _ _ _ _ _ _ _ _ _ _ _ _ _ _ _ _ _ _ _ _ _ _ _ _ _ _ _ _ _ _ _ _ _ _ _ _ _ _ _) (coverA W c t h)
theorem outB_eq (t : Fin cfg1.N) (h : ¬t.val % 2 = 0) (xs : Vec Ideal S16x128x128 .bf16) :
    outB W c t h xs = outG (kronOut (F := Ideal) (iblk W c 10 t) (iblk W c 2 t) (iblk W c 11 t)) (iblk W c 0 t) xs (half t) := by
  unfold outB
  exact read_tiles _ _ _ (outB_tiles c _ (half t) (half_coord t) _ _ _ _ _ _ _ _ _ _ _ _ _ _ _ _ _ _ _ _ _ _ _ _ _ _ _ _ _ _ _ _ _ _ _ _ _ _ _ _ _ _ _ _) (coverB W c t h xs)

/-- An odd point's batch entry is that of the even point before it. -/
theorem yGp_evenPt (t : Fin cfg1.N) : yGp W c (evenPt t.val) = yGp W c t := by
  have e0 : iblk W c 0 (evenPt t.val) = iblk W c 0 t := by
    have ht : t.val < 16 := lt_of_lt_of_eq t.isLt N_1
    funext y
    obtain ⟨z, a, h, w, rfl⟩ : ∃ z a h w, y = ix4 z a h w := ⟨y 0, y 1, y 2, y 3, eq_ix4 y⟩
    refine (iblk_0 W c _ z a h w).trans (Eq.trans ?_ (iblk_0 W c t z a h w).symm)
    congr 2; apply Fin.ext
    show (2 * (t.val / 2) % 16) / 2 = t.val / 2
    omega
  unfold yGp
  rw [e0, iblk_1, iblk_1, iblk_3, iblk_3, iblk_4, iblk_4, iblk_5, iblk_5, iblk_6, iblk_6, iblk_7, iblk_7, iblk_8, iblk_8, iblk_9, iblk_9]

/-- So every point leaves the same function of its blocks. -/
theorem outAt_eq (t : Fin cfg1.N) :
    outAt W c t = outG (kronOut (F := Ideal) (iblk W c 10 t) (iblk W c 2 t) (iblk W c 11 t)) (iblk W c 0 t) (yGp W c t) (half t) := by
  by_cases h : t.val % 2 = 0
  · rw [outAt_of_even W c t h, outA_eq]
  · rw [outAt_of_odd W c t h, outB_eq]
    congr 1
    unfold yAt
    rw [yA_eq, yGp_evenPt]

/-! ### The array after the run -/

/-- The four tables hold what their names say: rows, or columns, repeated eight times. -/
structure Replicates : Prop where
  sri : ∀ p m, aSri W c (ix2 p m) = if p.val / 8 = m.val then 1 else 0
  sci : ∀ a q, aSci W c (ix2 a q) = if q.val / 8 = a.val then 1 else 0
  sro : ∀ p m, aSro W c (ix2 p m) = if p.val / 8 = m.val then 1 else 0
  sco : ∀ a q, aSco W c (ix2 a q) = if q.val / 8 = a.val then 1 else 0

/-- The result: on top of the input, the enhanced middle channels through the output weights. -/
def result (x : S8x256x128x128.Idx → EReal) (win : S16x256.Idx → EReal) (wout : S256x16.Idx → EReal) (enh : Fin 16 → Mat → Mat) :
    S8x256x128x128.Idx → EReal := fun y =>
  x y + ∑ m : Fin 16, wout (ix2 (y 1) m) * enh m (fun h w => ∑ a : Fin 256, win (ix2 m a) * x (ix4 (y 0) a h w)) (y 2) (y 3)

/-- The kernel's enhancement of channel `m`, from its tables and the gain. -/
def enhK (m : Fin 16) : Mat → Mat :=
  enhance (mat (φ := .bf16) (aAr W c)) (mat (φ := .bf16) (aAi W c)) (mat (φ := .bf16) (aBr W c)) (mat (φ := .bf16) (aBi W c)) (fun i j => aGain W c (ix3 m i j))

theorem outAt_apply (hr : Replicates W c) (t : Fin cfg1.N) (z : Fin 1) (o h w : Fin 128) :
    outAt W c t (ix4 z o h w) = result (aX W c) (aWin W c) (aWout W c) (enhK W c)
      (ix4 ⟨t.val / 2, by have : t.val < 16 := lt_of_lt_of_eq t.isLt N_1; omega⟩ ⟨t.val % 2 * 128 + o.val, by omega⟩ h w) := by
  rw [outAt_eq, iblk_10, iblk_11]
  refine (out_sum _ _ _ hr.sro hr.sco _ _ _ z o h w).trans ?_
  rw [iblk_0]
  refine congrArg (_ + ·) (Finset.sum_congr rfl fun m _ => ?_)
  rw [iblk_2]
  refine congrArg (_ * ·) ?_
  unfold yGp
  rw [iblk_1, iblk_3, iblk_4, iblk_5, iblk_6, iblk_7, iblk_8, iblk_9]
  show enhance _ _ _ _ _ (fun i j => projG _ _ (ix3 m i j)) h w = _
  simp only [proj_sum _ _ _ hr.sri hr.sci, iblk_0]
  rfl

/-- The enhancement call's array. -/
theorem array_12 (hr : Replicates W c) :
    (dat1 W c).arrAt 12 cfg1.N = result (aX W c) (aWin W c) (aWout W c) (enhK W c) := by
  refine (dat1 W c).arrAt_eq_of_covers 12 _ (by decide +kernel) fun t _ y => ?_
  blk_simp
  rw [after1_12]
  obtain ⟨z, o, h, w, rfl⟩ : ∃ z o h w, y = ix4 z o h w := ⟨y 0, y 1, y 2, y 3, eq_ix4 y⟩
  refine (outAt_apply W c hr t z o h w).trans ?_
  blk_ext [index1_12 t]

end Cert.KernelIdeal.Hand

end
-- ==== Proof.Ideal.GainValue.lean ====
/-
  The gain call's array: the packed bin weights times the basis, as planes.
-/
module

public import proofs.«01_k».proof.Proof.Ideal.Arrays
public import proofs.«01_k».proof.Proof.Ideal.Gain
import all proofs.«01_k».proof.Proof.Ideal.Gain

public section

set_option maxRecDepth 16384

noncomputable section

namespace Cert.KernelIdeal.Hand

open Cert.KernelIdeal.Gen
open Idealize.ShloMosaic Idealize.ShloMosaic.TcCoe

variable (W : Dev nD → Valuation τ sig (Elt Ideal)) (c : Dev nD)

/-- The planes' product. -/
def gainG (bw : S16x72.Idx → EReal) (basis : S72x16384.Idx → EReal) : S16x128x128.Idx → EReal := fun y =>
  ∑ q : Fin 72, bw (ix2 (y 0) q) * basis (ix2 q ⟨(y 1).val * 128 + (y 2).val, by have h1 : (y 1).val < 128 := (y 1).isLt; have h2 : (y 2).val < 128 := (y 2).isLt; omega⟩)

theorem gain_product (v0 : Vec Ideal S16x72 .f32) (v2 : Vec Ideal S72x16384 .f32) : k0_pay1 v0 v2 = gainG v0 v2 := by
  funext j
  idx_vars j
  pointwise [k0_pay1, gainG]

theorem index0 : ∀ t : Fin cfg0.N, win0_0.index t = ![0, 0] ∧ win0_1.index t = ![0, 0] ∧ win0_2.index t = ![0, 0, 0] :=
  (by decide +kernel : ∀ t : Fin grid0.N, _)
theorem gblk_0 (t : Fin cfg0.N) : gblk W c 0 t = W c (Proc.devRef .tc main_v133) := by
  funext y; have e := (index0 t).1; blk_simp [gblk]; blk_ext [e]
theorem gblk_1 (t : Fin cfg0.N) : gblk W c 1 t = W c (Proc.devRef .tc main_v132) := by
  funext y; have e := (index0 t).2.1; blk_simp [gblk]; blk_ext [e]

theorem whole_box (inb : ∀ d, (![0, 0, 0] : Fin 3 → ℕ) d + S16x128x128.size d ≤ S16x128x128.size d) (x : S16x128x128.Idx) :
    (Rect.unit (s := S16x128x128) ![0, 0, 0] S16x128x128.size inb).emb x = x := by
  funext d; apply Fin.ext
  rw [ValueKit.rect_emb_unit_val]
  fin_cases d <;> exact Nat.zero_add _

theorem gain_tile (x0 : Vec Ideal S16x72 .f32) (x1 : Vec Ideal S72x16384 .f32) (a : Vec Ideal S16x72 .f32) (b : Vec Ideal S72x16384 .f32) (ha : a = x0) (hb : b = x1)
    (inb : ∀ d, (![0, 0, 0] : Fin 3 → ℕ) d + S16x128x128.size d ≤ S16x128x128.size d) (x : S16x128x128.Idx) :
    k0_pay1 a b x = gainG x0 x1 ((Rect.unit (s := S16x128x128) ![0, 0, 0] S16x128x128.size inb).emb x) := by
  rw [whole_box, gain_product, ha, hb]
theorem gain_tiles (arg0 : Memref sig .tc .vmem S16x72 .f32) (harg0 : arg0.IsWhole) (arg1 : Memref sig .tc .vmem S72x16384 .f32) (harg1 : arg1.IsWhole) (arg2 : Memref sig .tc .vmem S16x128x128 .f32) (harg2 : arg2.IsWhole)
    (x0 : Vec Ideal S16x72 .f32) (x1 : Vec Ideal S72x16384 .f32) : View.PiecesOf (gainG x0 x1) (kernelRun0 c arg0 harg0 arg1 harg1 arg2 harg2 x0 x1).1 := by
  unfold kernelRun0
  exact ⟨gain_tile x0 x1 _ _ (load_all arg0 harg0 x0 _ (by decide) _) (load_all arg1 harg1 x1 _ (by decide) _) inb_S16x128x128_S16x128x128_0_0_0, trivial⟩

theorem out0_eq (t : Fin cfg0.N) : out0 W c t = gainG (W c (Proc.devRef .tc main_v133)) (W c (Proc.devRef .tc main_v132)) := by
  unfold out0
  rw [← gblk_0 W c t, ← gblk_1 W c t]
  exact read_tiles _ _ _ (gain_tiles c _ _ _ _ _ _ _ _) (cover0 W c t)

theorem array_gain : (dat0 W c).arrAt 2 cfg0.N = gainG (W c (Proc.devRef .tc main_v133)) (W c (Proc.devRef .tc main_v132)) := by
  refine (dat0 W c).arrAt_eq_of_covers 2 _ (by decide +kernel) fun t _ y => ?_
  have e := (index0 t).2.2
  blk_simp
  rw [after0_2, out0_eq]
  blk_ext [e]

end Cert.KernelIdeal.Hand

end
-- ==== Proof.Ideal.Host.lean ====
/-
  The arrays the host hands to the two calls, read at an index.
-/
module

public import proofs.«01_k».proof.Proof.Ideal.Sums
public import proofs.«01_k».proof.Proof.Gen.KernelIdeal.Regions
public import Idealize.ShloMosaic.Lib.StableHlo.ReadAt
public import Idealize.ShloMosaic.Lib.Pointwise
public import Idealize.ShloMosaic.Lib.WordCmp
public import Idealize.ShloMosaic.Lib.Tactic.WordOmega

public section

set_option maxRecDepth 16384

noncomputable section

namespace Cert.KernelIdeal.Hand

open Cert.KernelIdeal.Gen
open Idealize.ShloMosaic Idealize.ShloMosaic.TcCoe

variable (V : Valuation τ sig (Elt Ideal))

/-! ### The tables of repeated rows -/

/-- A small word shifted right by three places is its quotient by eight. -/
theorem shift_three : ∀ p : Fin 2048, IntOp.shrsi .host (BitVec.ofNat 32 p.val) 3#32 = BitVec.ofNat 32 (p.val / 8) := by decide +kernel
/-- The comparison of two words below 2³², as a number. -/
theorem eq_unsigned (a b : ℕ) (ha : a < 4294967296) (hb : b < 4294967296) :
    (FloatOps.uitofp (F := Ideal) FTy.f32 (IntOp.cmpi .eq (BitVec.ofNat 32 a) (BitVec.ofNat 32 b)) : EReal) = if a = b then 1 else 0 := by
  show ((((IntOp.cmpi .eq (BitVec.ofNat 32 a) (BitVec.ofNat 32 b)).toNat : ℝ)) : EReal) = _
  have h : (IntOp.cmpi .eq (BitVec.ofNat 32 a) (BitVec.ofNat 32 b)).toNat = if a = b then 1 else 0 := by
    by_cases e : a = b
    · subst e; simp [IntOp.cmpi]
    · have : BitVec.ofNat 32 a ≠ BitVec.ofNat 32 b := fun h => e (by
        have := congrArg BitVec.toNat h
        simp only [BitVec.toNat_ofNat] at this
        omega)
      simp [IntOp.cmpi, e, this]
  rw [h]; split <;> simp
/-- The element of a table of repeated rows. -/
theorem rep_number (p q : ℕ) (hp : p < 2048) (hq : q < 4294967296) :
    (FloatOps.uitofp (F := Ideal) FTy.f32 (IntOp.cmpi .eq (IntOp.shrsi .host (BitVec.ofNat 32 p) 3#32) (BitVec.ofNat 32 q)) : EReal) = if p / 8 = q then 1 else 0 := by
  have h := shift_three ⟨p, hp⟩
  simp only at h
  rw [h, eq_unsigned _ _ (by omega) hq]

theorem rows_28 (p : Fin 128) (q : Fin 16) : StableHlo.after hostOps0_6 V (Proc.devRef .tc main_v28) (ix2 p q) = ((if p.val / 8 = q.val then 1 else 0 : EReal)) := by
  after_reads_at; exact rep_number _ _ (by omega) (by omega)
theorem cols_40 (p : Fin 256) (q : Fin 2048) : StableHlo.after hostOps0_6 V (Proc.devRef .tc main_v40) (ix2 p q) = ((if q.val / 8 = p.val then 1 else 0 : EReal)) := by
  after_reads_at; exact rep_number _ _ (by omega) (by omega)
theorem rows_50 (p : Fin 1024) (q : Fin 128) : StableHlo.after hostOps0_6 V (Proc.devRef .tc main_v50) (ix2 p q) = ((if p.val / 8 = q.val then 1 else 0 : EReal)) := by
  after_reads_at; exact rep_number _ _ (by omega) (by omega)
theorem cols_62 (p : Fin 16) (q : Fin 128) : StableHlo.after hostOps0_6 V (Proc.devRef .tc main_v62) (ix2 p q) = ((if q.val / 8 = p.val then 1 else 0 : EReal)) := by
  after_reads_at; exact rep_number _ _ (by omega) (by omega)

/-! ### The transform tables -/

theorem table_63 (k h : Fin 128) : StableHlo.after hostOps0_6 V (Proc.devRef .tc main_v63) (ix2 k h) = V (Proc.devRef .tc main_v13) (ix2 k h) := by
  after_reads_at
theorem table_64 (k h : Fin 128) : StableHlo.after hostOps0_6 V (Proc.devRef .tc main_v64) (ix2 k h) = V (Proc.devRef .tc main_v18) (ix2 k h) := by
  after_reads_at
theorem table_66 (k h : Fin 128) : StableHlo.after hostOps0_6 V (Proc.devRef .tc main_v66) (ix2 k h) = V (Proc.devRef .tc main_v13) (ix2 h k) := by
  after_reads_at
theorem table_68 (k h : Fin 128) : StableHlo.after hostOps0_6 V (Proc.devRef .tc main_v68) (ix2 k h) = V (Proc.devRef .tc main_v18) (ix2 h k) := by
  after_reads_at
theorem roll_13 (k h : Fin 128) : StableHlo.after hostOps0_3 V (Proc.devRef .tc main_v13) (ix2 k h) = V (Proc.devRef .tc main_v12) (ix2 (opp k) h) := by
  after_reads_at
  split <;> after_reads_at <;> exact congrArg (fun i => V (Proc.devRef .tc main_v12) (ix2 i h)) (Fin.ext (by simp only [opp]; omega))
theorem roll_18 (k h : Fin 128) : StableHlo.after hostOps0_5 V (Proc.devRef .tc main_v18) (ix2 k h) = V (Proc.devRef .tc main_v17) (ix2 (opp k) h) := by
  after_reads_at
  split <;> after_reads_at <;> exact congrArg (fun i => V (Proc.devRef .tc main_v17) (ix2 i h)) (Fin.ext (by simp only [opp]; omega))

/-! ### The basis and the weights -/

theorem bw_133 (k : Fin 16) (q : Fin 72) : StableHlo.after hostOps0_12 V (Proc.devRef .tc main_v133) (ix2 k q)
    = V (Proc.devRef .tc main_arg3) (ix3 k ⟨q.val / 9, by omega⟩ ⟨q.val % 9, by omega⟩) := by
  after_reads_at
theorem basis_132 (q : Fin 72) (n : Fin 16384) : StableHlo.after hostOps0_12 V (Proc.devRef .tc main_v132) (ix2 q n)
    = @HMul.hMul EReal EReal EReal _ (StableHlo.after hostOps0_12 V (Proc.devRef .tc main_v119) (ix3 (⟨q.val / 9, by omega⟩ : Fin 8) (⟨n.val / 128, by omega⟩ : Fin 128) (⟨n.val % 128, by omega⟩ : Fin 128)))
      (FloatOps.uitofp (F := Ideal) FTy.f32 (IntOp.cmpi .eq (V (Proc.devRef .tc main_v93) (ix2 (⟨n.val / 128, by omega⟩ : Fin 128) (⟨n.val % 128, by omega⟩ : Fin 128)))
        (BitVec.ofNat 32 (q.val % 9)))) := by
  after_reads_at

end Cert.KernelIdeal.Hand

end
-- ==== Proof.Ideal.Reference.lean ====
/-
  The reference's result, read at an index.
-/
module

public import proofs.«01_k».proof.Proof.Ideal.Sums
public import proofs.«01_k».proof.Proof.Gen.ReferenceIdeal.Run
public import Idealize.ShloMosaic.Lib.Pointwise
public import Idealize.ShloMosaic.Lib.Tactic
public import Idealize.ShloMosaic.Lib.WordCmp
public import Idealize.ShloMosaic.Lib.Tactic.WordOmega

public section

set_option maxRecDepth 16384

noncomputable section

namespace Cert.ReferenceIdeal.Hand

open Cert.ReferenceIdeal.Gen Cert.ReferenceIdeal.Value
open Idealize.ShloMosaic Idealize.ShloMosaic.TcCoe
open Cert.KernelIdeal.Hand (opp opp_opp dftRe dftIm idftRe enhanceRef)

variable (R : Valuation τ sig (Elt Ideal))

/-- The normalised angle weights. -/
@[expose] def weights : Vec Ideal S8x128x128 .f32 :=
  Host.divf (res_main_v44 R) (broadcastInDim S8x128x128 ![0, 1, 2] bcast_S1x128x128_S8x128x128_0_1_2 (addf (broadcastInDim S1x128x128 ![1, 2] bcast_S128x128_S1x128x128_1_2
    (Host.reduceAdd (res_main_v44 R) (constant S_ .f32 0x00000000#32) reducesTo_S8x128x128_S128x128_d0 h_S_)) (broadcastInDim S1x128x128 ![] bcast_S_S1x128x128 (constant S_ .f32 0x322BCC77#32))))

/-! ### The transform tables, the projection and the gain as matrices -/

/-- The transform matrix, real and imaginary part. -/
@[expose] def fr : Fin 128 → Fin 128 → EReal := fun k h => res_main_v63 R (ix2 k h)
@[expose] def fi : Fin 128 → Fin 128 → EReal := fun k h => res_main_v67 R (ix2 k h)
/-- The projected image of one batch element and middle channel. -/
@[expose] def proj (b : Fin 8) (p : Fin 16) : Fin 128 → Fin 128 → EReal := fun h w => res_main_v69 R (ix4 b p h w)
/-- The gain of one middle channel. -/
@[expose] def gain (p : Fin 16) : Fin 128 → Fin 128 → EReal := fun h w => res_main_v90 R (ix3 p h w)

/-! ### The forward transform -/

theorem swap_sum {n : ℕ} (f g : Fin n → EReal) : ∑ h, f h * g h = ∑ h, g h * f h := Finset.sum_congr rfl fun _ _ => mul_comm _ _
theorem proj_69 (b : Fin 8) (p : Fin 16) (h w : Fin 128) : res_main_v69 R (ix4 b p h w)
    = (∑ a, @HMul.hMul EReal EReal EReal _ (R (Proc.devRef .tc main_arg1) (ix2 p a)) (R (Proc.devRef .tc main_arg0) (ix4 b a h w)) : EReal) := by
  pointwise [res_main_v69]
theorem up_71 (b : Fin 8) (p : Fin 16) (k w : Fin 128) : res_main_v71 R (ix4 b p k w) = (∑ h, fr R k h * proj R b p h w : EReal) := by
  pointwise [res_main_v71]
  exact swap_sum (proj R b p · w) (fr R k)
theorem up_73 (b : Fin 8) (p : Fin 16) (k w : Fin 128) : res_main_v73 R (ix4 b p k w) = (∑ h, fi R k h * proj R b p h w : EReal) := by
  pointwise [res_main_v73]
  exact swap_sum (proj R b p · w) (fi R k)
theorem re_76 (b : Fin 8) (p : Fin 16) (k l : Fin 128) : res_main_v76 R (ix4 b p k l) = (dftRe (fr R) (fi R) (proj R b p) k l : EReal) := by
  pointwise [res_main_v76]
  simp only [up_71, up_73]
  rfl
theorem im_79 (b : Fin 8) (p : Fin 16) (k l : Fin 128) : res_main_v79 R (ix4 b p k l) = (dftIm (fr R) (fi R) (proj R b p) k l : EReal) := by
  pointwise [res_main_v79]
  simp only [up_71, up_73]
  rfl

/-! ### The gain at the shifted spectrum, and the shift back -/

/-- A choice between the two halves is one read at the opposite place. -/
theorem halves (f : Fin 128 → EReal) (k : Fin 128) :
    (if h : k.val < 64 then f ⟨64 + k.val, by omega⟩ else f ⟨k.val - 64, by omega⟩) = f (opp k) := by
  split <;> exact congrArg f (Fin.ext (by simp only [opp]; omega))

theorem call_4 (b : Fin 8) (p : Fin 16) (k l : Fin 128) : res_main_call4_v2 R (ix4 b p k l) = res_main_v76 R (ix4 b p (opp k) l) := by
  pointwise [res_main_call4_v2]
  exact halves (fun i => res_main_v76 R (ix4 b p i l)) k
theorem call_5 (b : Fin 8) (p : Fin 16) (k l : Fin 128) : res_main_call5_v2 R (ix4 b p k l) = res_main_v79 R (ix4 b p (opp k) l) := by
  pointwise [res_main_call5_v2]
  exact halves (fun i => res_main_v79 R (ix4 b p i l)) k
theorem re_93 (b : Fin 8) (p : Fin 16) (k l : Fin 128) : res_main_v93 R (ix4 b p k l) = @HMul.hMul EReal EReal EReal _ (res_main_v76 R (ix4 b p (opp k) (opp l))) (gain R p k l) := by
  pointwise [res_main_v93]
  refine congrArg (· * _) ((halves (fun i => res_main_call4_v2 R (ix4 b p k i)) l).trans (call_4 R b p k (opp l)))
theorem im_97 (b : Fin 8) (p : Fin 16) (k l : Fin 128) : res_main_v97 R (ix4 b p k l) = @HMul.hMul EReal EReal EReal _ (res_main_v79 R (ix4 b p (opp k) (opp l))) (gain R p k l) := by
  pointwise [res_main_v97]
  refine congrArg (· * _) ((halves (fun i => res_main_call5_v2 R (ix4 b p k i)) l).trans (call_5 R b p k (opp l)))
theorem call_6 (b : Fin 8) (p : Fin 16) (k l : Fin 128) : res_main_call6_v2 R (ix4 b p k l) = res_main_v93 R (ix4 b p (opp k) l) := by
  pointwise [res_main_call6_v2]
  exact halves (fun i => res_main_v93 R (ix4 b p i l)) k
theorem call_7 (b : Fin 8) (p : Fin 16) (k l : Fin 128) : res_main_call7_v2 R (ix4 b p k l) = res_main_v97 R (ix4 b p (opp k) l) := by
  pointwise [res_main_call7_v2]
  exact halves (fun i => res_main_v97 R (ix4 b p i l)) k
theorem re_94 (b : Fin 8) (p : Fin 16) (k l : Fin 128) : res_main_v94 R (ix4 b p k l) = gain R p (opp k) (opp l) * dftRe (fr R) (fi R) (proj R b p) k l := by
  pointwise [res_main_v94]
  refine (halves (fun i => res_main_call6_v2 R (ix4 b p k i)) l).trans ?_
  simp only [call_6, re_93, opp_opp, re_76]
  exact mul_comm _ _
theorem im_98 (b : Fin 8) (p : Fin 16) (k l : Fin 128) : res_main_v98 R (ix4 b p k l) = gain R p (opp k) (opp l) * dftIm (fr R) (fi R) (proj R b p) k l := by
  pointwise [res_main_v98]
  refine (halves (fun i => res_main_call7_v2 R (ix4 b p k i)) l).trans ?_
  simp only [call_7, im_97, opp_opp, im_79]
  exact mul_comm _ _

/-! ### The gain -/

theorem gather_bins (x : S16x8x9.Idx → EReal) (idx : IVec S128x128x1 32) (p : Fin 16) (a : Fin 8) (h w : Fin 128) :
    Host.gather gather_S16x8x9_S128x128x1_S16x8x128x128_01_2_n_n_2_2_1681 x idx (ix4 p a h w) = x (ix3 p a ⟨min (idx (ix3 h w 0)).toInt.toNat 8, by omega⟩) := by
  unfold Host.gather
  refine congrArg x (funext fun i => Fin.ext ?_)
  show gather_S16x8x9_S128x128x1_S16x8x128x128_01_2_n_n_2_2_1681.start (ix4 p a h w) idx i + gather_S16x8x9_S128x128x1_S16x8x128x128_01_2_n_n_2_2_1681.batchCoord (ix4 p a h w) i
    + gather_S16x8x9_S128x128x1_S16x8x128x128_01_2_n_n_2_2_1681.offCoord (ix4 p a h w) i = _
  rw [GatherDims.batchCoord_eq_zero _ _ _ List.not_mem_nil, Nat.add_zero]
  have hi : i = (0 : Fin 3) ∨ i = (1 : Fin 3) ∨ i = (2 : Fin 3) := by
    match i with
    | ⟨0, _⟩ => exact Or.inl rfl
    | ⟨1, _⟩ => exact Or.inr (Or.inl rfl)
    | ⟨2, _⟩ => exact Or.inr (Or.inr rfl)
  rcases hi with rfl | rfl | rfl
  · unfold GatherDims.start
    rw [dif_neg (by decide), Nat.zero_add]
    sl_kernel_rfl
  · unfold GatherDims.start
    rw [dif_neg (by decide), Nat.zero_add]
    sl_kernel_rfl
  · rw [GatherDims.offCoord_eq_zero _ _ _ (by decide), Nat.add_zero]
    unfold GatherDims.start
    rw [dif_pos (by decide)]
    have hs : gather_S16x8x9_S128x128x1_S16x8x128x128_01_2_n_n_2_2_1681.siIdx (ix4 p a h w) ⟨0, by decide⟩ = ix3 h w 0 := by
      funext b
      match b with
      | ⟨0, _⟩ => exact Fin.ext rfl
      | ⟨1, _⟩ => exact Fin.ext rfl
      | ⟨2, _⟩ => exact Fin.ext rfl
    exact congrArg (fun q => min (idx q).toInt.toNat 8) hs
/-- A word clamped between zero and eight. -/
theorem clamp_le (z : BitVec 32) : (IntOp.minsi 8#32 (IntOp.maxsi 0#32 z)).toNat ≤ 8 := by
  unfold IntOp.minsi IntOp.maxsi
  simp only [BitVec.slt_eq_decide]
  word_omega
theorem radius_le (h w : Fin 128) : (show BitVec 32 from res_main_v24 R (ix2 h w)).toNat ≤ 8 := by
  pointwise [res_main_v24]
  exact clamp_le _
/-- The radius bin of a place of the shifted spectrum. -/
@[expose] def bin (h w : Fin 128) : Fin 9 := ⟨(show BitVec 32 from res_main_v24 R (ix2 h w)).toNat, Nat.lt_succ_of_le (radius_le R h w)⟩
/-- The start words of the gather: a negative bin counts from the end. -/
@[expose] def starts : IVec S128x128x1 32 :=
  broadcastInDim S128x128x1 ![0, 1] bcast_S128x128_S128x128x1_0_1 (select (cmpi .slt (res_main_v24 R) (broadcastInDim S128x128 ![] bcast_S_S128x128 (constantI S_ 32 0#32)))
    (addi (res_main_v24 R) (broadcastInDim S128x128 ![] bcast_S_S128x128 (constantI S_ 32 9#32))) (res_main_v24 R))
/-- A bin is never negative. -/
theorem wrap_bin (z : BitVec 32) (hz : z.toNat ≤ 8) : min (Scalar.select (IntOp.cmpi .slt z 0#32) (IntOp.addi z 9#32) z).toInt.toNat 8 = z.toNat := by
  have e : Scalar.select (IntOp.cmpi .slt z 0#32) (IntOp.addi z 9#32) z = z := by word_omega
  rw [e, BitVec.toInt_eq_toNat_cond]
  split <;> omega
theorem starts_bin (h w : Fin 128) : min (starts R (ix3 h w 0)).toInt.toNat 8 = (bin R h w).val := by
  have e : starts R (ix3 h w 0) = Scalar.select (IntOp.cmpi .slt (res_main_v24 R (ix2 h w)) 0#32) (IntOp.addi (res_main_v24 R (ix2 h w)) 9#32) (res_main_v24 R (ix2 h w)) := by
    pointwise [starts]
  rw [e]
  exact wrap_bin _ (radius_le R h w)
theorem gain_90 (p : Fin 16) (h w : Fin 128) : gain R p h w
    = (∑ a, @HMul.hMul EReal EReal EReal _ (R (Proc.devRef .tc main_arg3) (ix3 p a (bin R h w))) (weights R (ix3 a h w)) : EReal) := by
  show res_main_v90 R (ix3 p h w) = _
  have e : ∀ a : Fin 8, Host.gather gather_S16x8x9_S128x128x1_S16x8x128x128_01_2_n_n_2_2_1681 (R (Proc.devRef .tc main_arg3) : S16x8x9.Idx → EReal) (starts R) (ix4 p a h w)
      = R (Proc.devRef .tc main_arg3) (ix3 p a (bin R h w)) := fun a =>
    (gather_bins (R (Proc.devRef .tc main_arg3)) (starts R) p a h w).trans (congrArg (fun i => R (Proc.devRef .tc main_arg3) (ix3 p a i)) (Fin.ext (starts_bin R h w)))
  simp only [← e]
  pointwise [res_main_v90, weights]
  rfl

/-! ### The result -/

/-- The columns transformed back, real and imaginary part, -/
@[expose] def colRe : Vec Ideal S8x16x128x128 .f32 :=
  addf (transpose S8x16x128x128 [0, 1, 3, 2] (Host.dotGeneral (φ₁ := .f32) (φ₂ := .f32) dot_S8x16x128x128_S128x128_S8x16x128x128_2_0_013_1_n_n none (res_main_v94 R) (res_main_v63 R)) transposes_S8x16x128x128_S8x16x128x128_0_1_3_2)
    (transpose S8x16x128x128 [0, 1, 3, 2] (Host.dotGeneral (φ₁ := .f32) (φ₂ := .f32) dot_S8x16x128x128_S128x128_S8x16x128x128_2_0_013_1_n_n none (res_main_v98 R) (res_main_v67 R)) transposes_S8x16x128x128_S8x16x128x128_0_1_3_2)
@[expose] def colIm : Vec Ideal S8x16x128x128 .f32 :=
  subf (transpose S8x16x128x128 [0, 1, 3, 2] (Host.dotGeneral (φ₁ := .f32) (φ₂ := .f32) dot_S8x16x128x128_S128x128_S8x16x128x128_2_0_013_1_n_n none (res_main_v98 R) (res_main_v63 R)) transposes_S8x16x128x128_S8x16x128x128_0_1_3_2)
    (transpose S8x16x128x128 [0, 1, 3, 2] (Host.dotGeneral (φ₁ := .f32) (φ₂ := .f32) dot_S8x16x128x128_S128x128_S8x16x128x128_2_0_013_1_n_n none (res_main_v94 R) (res_main_v67 R)) transposes_S8x16x128x128_S8x16x128x128_0_1_3_2)
/-- the enhanced middle channels, -/
@[expose] def middle : Vec Ideal S8x16x128x128 .f32 :=
  addf (Host.dotGeneral (φ₁ := .f32) (φ₂ := .f32) dot_S8x16x128x128_S128x128_S8x16x128x128_3_0_012_1_n_n none (colRe R) (res_main_v63 R))
    (Host.dotGeneral (φ₁ := .f32) (φ₂ := .f32) dot_S8x16x128x128_S128x128_S8x16x128x128_3_0_012_1_n_n none (colIm R) (res_main_v67 R))
/-- and the result, as the reference's operations compose it. -/
@[expose] def composed : FVec Ideal S8x256x128x128 .f32 :=
  addf (F := Ideal) (φ := .f32) (R (Proc.devRef .tc main_arg0)) (transpose S8x256x128x128 [1, 0, 2, 3] (Host.dotGeneral (φ₁ := .f32) (φ₂ := .f32) dot_S256x16_S8x16x128x128_S256x8x128x128_1_1_0_023_n_n none
    (R (Proc.devRef .tc main_arg2)) (middle R)) transposes_S256x8x128x128_S8x256x128x128_1_0_2_3)

theorem colRe_apply (b : Fin 8) (p : Fin 16) (h l : Fin 128) : colRe R (ix4 b p h l)
    = ((∑ k, fr R k h * res_main_v94 R (ix4 b p k l)) + ∑ k, fi R k h * res_main_v98 R (ix4 b p k l) : EReal) := by
  pointwise [colRe]
  exact congrArg₂ (· + ·) (swap_sum (fun k => res_main_v94 R (ix4 b p k l)) (fun k => fr R k h)) (swap_sum (fun k => res_main_v98 R (ix4 b p k l)) (fun k => fi R k h))
theorem colIm_apply (b : Fin 8) (p : Fin 16) (h l : Fin 128) : colIm R (ix4 b p h l)
    = ((∑ k, fr R k h * res_main_v98 R (ix4 b p k l)) - ∑ k, fi R k h * res_main_v94 R (ix4 b p k l) : EReal) := by
  pointwise [colIm]
  exact congrArg₂ (· - ·) (swap_sum (fun k => res_main_v98 R (ix4 b p k l)) (fun k => fr R k h)) (swap_sum (fun k => res_main_v94 R (ix4 b p k l)) (fun k => fi R k h))
theorem middle_apply (b : Fin 8) (p : Fin 16) (h w : Fin 128) : middle R (ix4 b p h w) = (enhanceRef (fr R) (fi R) (gain R p) (proj R b p) h w : EReal) := by
  pointwise [middle]
  simp only [colRe_apply, colIm_apply, re_94, im_98]
  rfl
theorem composed_apply (b : Fin 8) (o : Fin 256) (h w : Fin 128) : composed R (ix4 b o h w)
    = @HAdd.hAdd EReal EReal EReal _ (R (Proc.devRef .tc main_arg0) (ix4 b o h w)) (∑ p : Fin 16, @HMul.hMul EReal EReal EReal _ (R (Proc.devRef .tc main_arg2) (ix2 o p))
        (enhanceRef (fr R) (fi R) (gain R p) (proj R b p) h w)) := by
  pointwise [composed]
  simp only [middle_apply]

end Cert.ReferenceIdeal.Hand

end
-- ==== Proof.Ideal.Tables.lean ====
/-
  The transform tables, the radius bins and the angle weights: the vectors that the host makes before the calls are those the reference makes.
-/
module

public import proofs.«01_k».proof.Proof.Ideal.Host
public import proofs.«01_k».proof.Proof.Ideal.Reference
public import Idealize.ShloMosaic.Lib.Tactic

public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ) (c : Dev nD)
variable (R : Valuation ReferenceIdeal.τ ReferenceIdeal.sig (Elt Ideal))

theorem cos_table : (V3 m c (Proc.devRef .tc main_v12) : Vec Ideal S128x128 .f32) = ReferenceIdeal.Value.res_main_v63 R := by
  show StableHlo.after hostOps0_2 (StableHlo.after hostOps0_1 (StableHlo.after hostOps0 (V0 m c))) (Proc.devRef .tc main_v12) = _
  after_reads_simp
  sl_kernel_rfl
theorem sin_table : (V5 m c (Proc.devRef .tc main_v17) : Vec Ideal S128x128 .f32) = ReferenceIdeal.Value.res_main_v67 R := by
  show StableHlo.after hostOps0_4 (StableHlo.after hostOps0_3 (StableHlo.after hostOps0_2 (StableHlo.after hostOps0_1 (StableHlo.after hostOps0 (V0 m c))))) (Proc.devRef .tc main_v17) = _
  after_reads_simp
  sl_kernel_rfl
theorem radius_bins : (V10 m c (Proc.devRef .tc main_v93) : IVec S128x128 32) = ReferenceIdeal.Value.res_main_v24 R := by
  show StableHlo.after hostOps0_9 (StableHlo.after hostOps0_8 (StableHlo.after hostOps0_7 (StableHlo.after hostOps0_6 (V6 m c)))) (Proc.devRef .tc main_v93) = _
  after_reads_simp
  sl_kernel_rfl
theorem angle_weights : (V13 m c (Proc.devRef .tc main_v119) : Vec Ideal S8x128x128 .f32) = ReferenceIdeal.Hand.weights R := by
  show StableHlo.after hostOps0_12 (StableHlo.after hostOps0_11 (StableHlo.after hostOps0_10 (StableHlo.after hostOps0_9 (StableHlo.after hostOps0_8 (StableHlo.after hostOps0_7 (StableHlo.after hostOps0_6 (V6 m c))))))) (Proc.devRef .tc main_v119) = _
  after_reads_simp
  sl_kernel_rfl

end Cert.KernelIdeal.Hand

end
-- ==== Proof.Ideal.Value.lean ====
/-
  The kernel's result is the reference's: the host's tables, the gain call's planes and the enhancement call's array, joined.
-/
module

public import proofs.«01_k».proof.Proof.Ideal.GainValue
public import proofs.«01_k».proof.Proof.Ideal.Tables
public import proofs.«01_k».proof.Proof.Ideal.Run
import all proofs.«01_k».proof.Proof.Ideal.Arrays
import all proofs.«01_k».proof.Proof.Ideal.GainValue
import all proofs.«01_k».proof.Proof.Ideal.Ops

public section

set_option maxRecDepth 16384

noncomputable section

namespace Cert.KernelIdeal.Hand

open Cert.KernelIdeal.Gen
open Cert.ReferenceIdeal.Hand (fr fi bin weights composed)
open Idealize.ShloMosaic Idealize.ShloMosaic.TcCoe

variable (m : (ℓ : Loc nD τ sig) → Buf (Elt Ideal) ℓ) (c : Dev nD)
variable (R : Valuation ReferenceIdeal.τ ReferenceIdeal.sig (Elt Ideal))

/-! ### What no later item writes -/

/-- The gain call changes no array but its own. -/
theorem U1_keeps (r : Ref sig .tc) (h : ∀ w : Fin cfg0.W, Pipeline.arrRef spec0 w = r → (cfg0.win w).isOut = false) :
    U1 m c (Proc.devRef .tc r) = U0 m c (Proc.devRef .tc r) :=
  Pipeline.afterRegion_keeps (dat0 (U0 m) c) (U0 m c) launch0.win.arr_inj (dat0_A (U0 m) c) r h
/-- What the tables' stretch leaves and no later stretch writes is there at the calls. -/
theorem table_kept (r : Ref sig .tc) (h : ∀ w : Fin cfg0.W, Pipeline.arrRef spec0 w = r → (cfg0.win w).isOut = false)
    (h7 : r ∉ hostOps0_7_W) (h8 : r ∉ hostOps0_8_W) (h9 : r ∉ hostOps0_9_W) (h10 : r ∉ hostOps0_10_W) (h11 : r ∉ hostOps0_11_W) (h12 : r ∉ hostOps0_12_W) :
    U1 m c (Proc.devRef .tc r) = V7 m c (Proc.devRef .tc r) :=
  (U1_keeps m c r h).trans ((V13_of m c r h12).trans ((V12_of m c r h11).trans ((V11_of m c r h10).trans ((V10_of m c r h9).trans ((V9_of m c r h8).trans (V8_of m c r h7))))))

/-! ### The tables -/

theorem replicates : Replicates (U1 m) c where
  sri p q := (congrFun (table_kept m c main_v28 (by decide) (by decide) (by decide) (by decide) (by decide) (by decide) (by decide)) _).trans (rows_28 (V6 m c) p q)
  sci p q := (congrFun (table_kept m c main_v40 (by decide) (by decide) (by decide) (by decide) (by decide) (by decide) (by decide)) _).trans (cols_40 (V6 m c) p q)
  sro p q := (congrFun (table_kept m c main_v50 (by decide) (by decide) (by decide) (by decide) (by decide) (by decide) (by decide)) _).trans (rows_50 (V6 m c) p q)
  sco p q := (congrFun (table_kept m c main_v62 (by decide) (by decide) (by decide) (by decide) (by decide) (by decide) (by decide)) _).trans (cols_62 (V6 m c) p q)

/-- The shifted cosine and sine tables. -/
theorem shifted_cos (k h : Fin 128) : V6 m c (Proc.devRef .tc main_v13) (ix2 k h) = fr R (opp k) h :=
  (congrFun ((V6_of m c main_v13 (by decide)).trans (V5_of m c main_v13 (by decide))) _).trans ((roll_13 (V3 m c) k h).trans (congrFun (cos_table m c R) _))
theorem shifted_sin (k h : Fin 128) : V6 m c (Proc.devRef .tc main_v18) (ix2 k h) = fi R (opp k) h :=
  (roll_18 (V5 m c) k h).trans (congrFun (sin_table m c R) _)
theorem mat_ar : mat (φ := .bf16) (aAr (U1 m) c) = fun k h => fr R (opp k) h := by
  funext k h
  exact (congrFun (table_kept m c main_v63 (by decide) (by decide) (by decide) (by decide) (by decide) (by decide) (by decide)) _).trans ((table_63 (V6 m c) k h).trans (shifted_cos m c R k h))
theorem mat_ai : mat (φ := .bf16) (aAi (U1 m) c) = fun k h => fi R (opp k) h := by
  funext k h
  exact (congrFun (table_kept m c main_v64 (by decide) (by decide) (by decide) (by decide) (by decide) (by decide) (by decide)) _).trans ((table_64 (V6 m c) k h).trans (shifted_sin m c R k h))
theorem mat_br : mat (φ := .bf16) (aBr (U1 m) c) = fun w l => fr R (opp l) w := by
  funext w l
  exact (congrFun (table_kept m c main_v66 (by decide) (by decide) (by decide) (by decide) (by decide) (by decide) (by decide)) _).trans ((table_66 (V6 m c) w l).trans (shifted_cos m c R l w))
theorem mat_bi : mat (φ := .bf16) (aBi (U1 m) c) = fun w l => fi R (opp l) w := by
  funext w l
  exact (congrFun (table_kept m c main_v68 (by decide) (by decide) (by decide) (by decide) (by decide) (by decide) (by decide)) _).trans ((table_68 (V6 m c) w l).trans (shifted_sin m c R l w))

/-! ### The gain -/

theorem word_self (z : BitVec 32) : BitVec.ofNat 32 z.toNat = z := by simp
/-- The bin's comparison, as a number. -/
theorem bin_number (h w : Fin 128) (k : ℕ) (hk : k < 9) :
    (FloatOps.uitofp (F := Ideal) FTy.f32 (IntOp.cmpi .eq (V12 m c (Proc.devRef .tc main_v93) (ix2 h w)) (BitVec.ofNat 32 k)) : EReal) = if (bin R h w).val = k then 1 else 0 := by
  have e : V12 m c (Proc.devRef .tc main_v93) (ix2 h w) = BitVec.ofNat 32 (bin R h w).val :=
    (congrFun ((V12_of m c main_v93 (by decide)).trans (V11_of m c main_v93 (by decide))) _).trans ((congrFun (radius_bins m c R) _).trans
      (word_self _).symm)
  rw [e]
  exact eq_unsigned _ _ (by have := (bin R h w).isLt; omega) (by omega)
theorem basis_entry (q : Fin 72) (h w : Fin 128) (hn : h.val * 128 + w.val < 16384) :
    U0 m c (Proc.devRef .tc main_v132) (ix2 q ⟨h.val * 128 + w.val, hn⟩)
      = weights R (ix3 ⟨q.val / 9, by omega⟩ h w) * (if (bin R h w).val = q.val % 9 then 1 else 0) := by
  refine (basis_132 (V12 m c) q ⟨h.val * 128 + w.val, hn⟩).trans ?_
  have eh : (⟨(h.val * 128 + w.val) / 128, by omega⟩ : Fin 128) = h := Fin.ext (by show (h.val * 128 + w.val) / 128 = h.val; omega)
  have ew : (⟨(h.val * 128 + w.val) % 128, by omega⟩ : Fin 128) = w := Fin.ext (by show (h.val * 128 + w.val) % 128 = w.val; omega)
  simp only [eh, ew]
  rw [bin_number m c R h w _ (by omega)]
  exact congrArg (· * _) (congrFun (angle_weights m c R) _)
theorem bins_entry (h3 : ∀ y, R (Proc.devRef .tc ReferenceIdeal.main_arg3) y = m ((c.tc : Thread nD τ).loc main_arg3) y) (p : Fin 16) (q : Fin 72) :
    U0 m c (Proc.devRef .tc main_v133) (ix2 p q) = R (Proc.devRef .tc ReferenceIdeal.main_arg3) (ix3 p ⟨q.val / 9, by omega⟩ ⟨q.val % 9, by omega⟩) :=
  (bw_133 (V12 m c) p q).trans ((congrFun ((V13_of m c main_arg3 (by decide)).symm.trans (U0_main_arg3 m c)) _).trans (h3 _).symm)
theorem gain_entry (h3 : ∀ y, R (Proc.devRef .tc ReferenceIdeal.main_arg3) y = m ((c.tc : Thread nD τ).loc main_arg3) y) (p : Fin 16) (h w : Fin 128) :
    aGain (U1 m) c (ix3 p h w) = ReferenceIdeal.Hand.gain R p h w := by
  refine (congrFun ((Pipeline.afterRegion_arr (dat0 (U0 m) c) (U0 m c) launch0.win.arr_inj 2).trans (array_gain (U0 m) c)) (ix3 p h w)).trans ?_
  rw [ReferenceIdeal.Hand.gain_90]
  refine Eq.trans ?_ (gain_sum (fun a r => R (Proc.devRef .tc ReferenceIdeal.main_arg3) (ix3 p a r)) (fun a => weights R (ix3 a h w)) (bin R h w))
  refine Finset.sum_congr (M := EReal) rfl fun q _ => ?_
  exact congrArg₂ (fun a b : EReal => a * b) (bins_entry m c R h3 p q) (basis_entry m c R q h w _)

/-! ### The result -/

theorem kernel_value (h0 : ∀ y, R (Proc.devRef .tc ReferenceIdeal.main_arg0) y = m ((c.tc : Thread nD τ).loc main_arg0) y)
    (h1 : ∀ y, R (Proc.devRef .tc ReferenceIdeal.main_arg1) y = m ((c.tc : Thread nD τ).loc main_arg1) y)
    (h2 : ∀ y, R (Proc.devRef .tc ReferenceIdeal.main_arg2) y = m ((c.tc : Thread nD τ).loc main_arg2) y)
    (h3 : ∀ y, R (Proc.devRef .tc ReferenceIdeal.main_arg3) y = m ((c.tc : Thread nD τ).loc main_arg3) y) :
    U2 m c (Proc.devRef .tc main_v135) = composed R := by
  refine (Pipeline.afterRegion_arr (dat1 (U1 m) c) (U1 m c) launch1.win.arr_inj 12).trans ((array_12 (U1 m) c (replicates m c)).trans ?_)
  funext y
  obtain ⟨b, o, h, w, rfl⟩ : ∃ (b : Fin 8) (o : Fin 256) (h w : Fin 128), y = ix4 b o h w := ⟨y 0, y 1, y 2, y 3, eq_ix4 y⟩
  have ex : ∀ y, aX (U1 m) c y = R (Proc.devRef .tc ReferenceIdeal.main_arg0) y := fun y =>
    (congrFun ((U1_keeps m c main_arg0 (by decide)).trans (U0_main_arg0 m c)) y).trans (h0 y).symm
  have ei : ∀ y, aWin (U1 m) c y = R (Proc.devRef .tc ReferenceIdeal.main_arg1) y := fun y =>
    (congrFun ((U1_keeps m c main_arg1 (by decide)).trans (U0_main_arg1 m c)) y).trans (h1 y).symm
  have eo : ∀ y, aWout (U1 m) c y = R (Proc.devRef .tc ReferenceIdeal.main_arg2) y := fun y =>
    (congrFun ((U1_keeps m c main_arg2 (by decide)).trans (U0_main_arg2 m c)) y).trans (h2 y).symm
  have ee : ∀ p, enhK (U1 m) c p = enhanceRef (fr R) (fi R) (ReferenceIdeal.Hand.gain R p) := fun p => by
    funext q
    unfold enhK
    rw [mat_ar m c R, mat_ai m c R, mat_br m c R, mat_bi m c R, show (fun i j => aGain (U1 m) c (ix3 p i j)) = ReferenceIdeal.Hand.gain R p from
      funext fun i => funext fun j => gain_entry m c R h3 p i j]
    exact enhance_shift _ _ _ _
  rw [ReferenceIdeal.Hand.composed_apply]
  unfold result
  simp only [ee, ex, ei, eo]
  refine congrArg₂ (fun a b : EReal => a + b) rfl (Finset.sum_congr rfl fun p _ => ?_)
  refine congrArg₂ (fun a b : EReal => a * b) rfl ?_
  have ep : ReferenceIdeal.Hand.proj R b p = _ := funext fun i => funext fun j => ReferenceIdeal.Hand.proj_69 R b p i j
  rw [ep]
  rfl

end Cert.KernelIdeal.Hand

end
-- ==== Proof.Ideal.PolarForm.lean ====
/-
  A point of the plane from its polar form, over the extended reals: magnitude times cosine and sine of the phase give back the coordinates of a finite point.
-/
module

public import Idealize.ShloMosaic.PureOps.Ideal
public import Mathlib.Analysis.SpecialFunctions.Trigonometric.Arctan

public section

noncomputable section

namespace Cert.PolarIdeal.Hand

open Idealize.ShloMosaic

/-! ### IsReal extended reals -/

/-- The number is a real one. -/
@[expose] def IsReal (z : EReal) : Prop := ∃ r : ℝ, z = r

theorem IsReal.add {a b : EReal} : IsReal a → IsReal b → IsReal (a + b) := by
  rintro ⟨r, rfl⟩ ⟨s, rfl⟩
  exact ⟨r + s, (EReal.coe_add r s).symm⟩
theorem IsReal.sub {a b : EReal} : IsReal a → IsReal b → IsReal (a - b) := by
  rintro ⟨r, rfl⟩ ⟨s, rfl⟩
  exact ⟨r - s, (EReal.coe_sub r s).symm⟩
theorem IsReal.mul {a b : EReal} : IsReal a → IsReal b → IsReal (a * b) := by
  rintro ⟨r, rfl⟩ ⟨s, rfl⟩
  exact ⟨r * s, (EReal.coe_mul r s).symm⟩
theorem IsReal.neg {a : EReal} : IsReal a → IsReal (-a) := by
  rintro ⟨r, rfl⟩
  exact ⟨-r, (EReal.coe_neg r).symm⟩
theorem IsReal.cos {a : EReal} : IsReal a → IsReal (Ideal.cos a) := by
  rintro ⟨r, rfl⟩
  exact ⟨Real.cos r, rfl⟩
theorem IsReal.sin {a : EReal} : IsReal a → IsReal (Ideal.sin a) := by
  rintro ⟨r, rfl⟩
  exact ⟨Real.sin r, rfl⟩
theorem IsReal.sum {n : ℕ} (f : Fin n → EReal) (h : ∀ i, IsReal (f i)) : IsReal (∑ i, f i) :=
  Finset.sum_induction f IsReal (fun _ _ => IsReal.add) ⟨0, rfl⟩ fun i _ => h i
/-- A number whose absolute value is below infinity is real. -/
theorem real_of_abs {a : EReal} (h : max a (-a) < ⊤) : IsReal a := by
  induction a with
  | bot => exact absurd h (by simp)
  | top => exact absurd h (by simp)
  | coe r => exact ⟨r, rfl⟩

/-! ### The polar form -/

/-- The phase of a point, as a real number. -/
@[expose] def phase (b a : ℝ) : ℝ :=
  if 0 < a then Real.arctan (b / a)
  else if a < 0 then (if 0 ≤ b then Real.arctan (b / a) + Real.pi else Real.arctan (b / a) - Real.pi)
  else if 0 < b then Real.pi / 2 else if b < 0 then -(Real.pi / 2) else 0

theorem root (a b : ℝ) (ha : a ≠ 0) : Real.sqrt (1 + (b / a) ^ 2) = Real.sqrt (a * a + b * b) / |a| := by
  rw [← Real.sqrt_sq_eq_abs, ← Real.sqrt_div' _ (sq_nonneg a)]
  congr 1
  field_simp
theorem root_pos (a b : ℝ) (ha : a ≠ 0) : 0 < Real.sqrt (a * a + b * b) :=
  Real.sqrt_pos.mpr (by have := mul_self_pos.mpr ha; have := mul_self_nonneg b; linarith)
theorem cos_slope (a b : ℝ) (ha : a ≠ 0) : Real.sqrt (a * a + b * b) * Real.cos (Real.arctan (b / a)) = |a| := by
  rw [Real.cos_arctan, root a b ha]
  have := root_pos a b ha
  field_simp
theorem sin_slope (a b : ℝ) (ha : a ≠ 0) : Real.sqrt (a * a + b * b) * Real.sin (Real.arctan (b / a)) = b / a * |a| := by
  rw [Real.sin_arctan, root a b ha]
  have := root_pos a b ha
  field_simp
theorem cos_phase (a b : ℝ) : Real.sqrt (a * a + b * b) * Real.cos (phase b a) = a := by
  unfold phase
  rcases lt_trichotomy a 0 with h | h | h
  · have e := cos_slope a b h.ne
    rw [abs_of_neg h] at e
    rw [if_neg h.not_gt, if_pos h]
    split
    · rw [Real.cos_add_pi]; linarith
    · rw [Real.cos_sub_pi]; linarith
  · subst h
    rw [if_neg (lt_irrefl _), if_neg (lt_irrefl _)]
    rcases lt_trichotomy b 0 with k | k | k
    · rw [if_neg k.not_gt, if_pos k, Real.cos_neg, Real.cos_pi_div_two, mul_zero]
    · subst k; simp
    · rw [if_pos k, Real.cos_pi_div_two, mul_zero]
  · rw [if_pos h, cos_slope a b h.ne', abs_of_pos h]
theorem sin_phase (a b : ℝ) : Real.sqrt (a * a + b * b) * Real.sin (phase b a) = b := by
  unfold phase
  rcases lt_trichotomy a 0 with h | h | h
  · have e := sin_slope a b h.ne
    have d : b / a * a = b := div_mul_cancel₀ b h.ne
    rw [abs_of_neg h, mul_neg, d] at e
    rw [if_neg h.not_gt, if_pos h]
    split
    · rw [Real.sin_add_pi]; linarith
    · rw [Real.sin_sub_pi]; linarith
  · subst h
    rw [if_neg (lt_irrefl _), if_neg (lt_irrefl _), zero_mul, zero_add, Real.sqrt_mul_self_eq_abs]
    rcases lt_trichotomy b 0 with k | k | k
    · rw [if_neg k.not_gt, if_pos k, Real.sin_neg, Real.sin_pi_div_two, abs_of_neg k]; ring
    · subst k; simp
    · rw [if_pos k, Real.sin_pi_div_two, abs_of_pos k, mul_one]
  · rw [if_pos h, sin_slope a b h.ne', abs_of_pos h, div_mul_cancel₀ b h.ne']

theorem sqrt_squares (a b : ℝ) : Ideal.sqrt ((a : EReal) * a + (b : EReal) * b) = (Real.sqrt (a * a + b * b) : EReal) := by
  rw [← EReal.coe_mul, ← EReal.coe_mul, ← EReal.coe_add, Ideal.sqrt_coe, if_neg (by have := mul_self_nonneg a; have := mul_self_nonneg b; linarith)]
theorem atan2_real (b a : ℝ) : Ideal.atan2 (b : EReal) (a : EReal) = (phase b a : EReal) := rfl

/-- Magnitude times gain times the cosine of the phase is the first coordinate times the gain, -/
theorem polar_cos {x y : EReal} (hx : IsReal x) (hy : IsReal y) (g : EReal) :
    Ideal.sqrt (x * x + y * y) * g * Ideal.cos (Ideal.atan2 y x) = x * g := by
  obtain ⟨a, rfl⟩ := hx
  obtain ⟨b, rfl⟩ := hy
  rw [sqrt_squares, atan2_real, mul_right_comm]
  refine congrArg (· * g) ?_
  show (Real.sqrt (a * a + b * b) : EReal) * (Real.cos (phase b a) : EReal) = _
  rw [← EReal.coe_mul, cos_phase]
/-- and with the sine it is the second one times the gain. -/
theorem polar_sin {x y : EReal} (hx : IsReal x) (hy : IsReal y) (g : EReal) :
    Ideal.sqrt (x * x + y * y) * g * Ideal.sin (Ideal.atan2 y x) = y * g := by
  obtain ⟨a, rfl⟩ := hx
  obtain ⟨b, rfl⟩ := hy
  rw [sqrt_squares, atan2_real, mul_right_comm]
  refine congrArg (· * g) ?_
  show (Real.sqrt (a * a + b * b) : EReal) * (Real.sin (phase b a) : EReal) = _
  rw [← EReal.coe_mul, sin_phase]

end Cert.PolarIdeal.Hand

end
-- ==== Proof.Ideal.Polar.lean ====
/-
  The result of the reference in polar form, read at an index, for finite image and first projection.
-/
module

public import proofs.«01_k».proof.Proof.Ideal.Reference
public import proofs.«01_k».proof.Proof.Ideal.PolarForm
public import proofs.«01_k».proof.Proof.Gen.PolarIdeal.Run
public import Idealize.ShloMosaic.Lib.Pointwise
public import Idealize.ShloMosaic.Lib.Tactic
public import Idealize.ShloMosaic.Lib.WordCmp
public import Idealize.ShloMosaic.Lib.Tactic.WordOmega

public section

set_option maxRecDepth 16384

noncomputable section

namespace Cert.PolarIdeal.Hand

open Cert.PolarIdeal.Gen Cert.PolarIdeal.Value
open Idealize.ShloMosaic Idealize.ShloMosaic.TcCoe
open Cert.KernelIdeal.Hand (opp opp_opp dftRe dftIm idftRe enhanceRef)
open Cert.ReferenceIdeal.Hand (swap_sum halves gather_bins clamp_le wrap_bin)

variable (R : Valuation τ sig (Elt Ideal))

/-- The normalised angle weights. -/
@[expose] def weights : Vec Ideal S8x128x128 .f32 :=
  Host.divf (res_main_v44 R) (broadcastInDim S8x128x128 ![0, 1, 2] bcast_S1x128x128_S8x128x128_0_1_2 (addf (broadcastInDim S1x128x128 ![1, 2] bcast_S128x128_S1x128x128_1_2
    (Host.reduceAdd (res_main_v44 R) (constant S_ .f32 0x00000000#32) reducesTo_S8x128x128_S128x128_d0 h_S_)) (broadcastInDim S1x128x128 ![] bcast_S_S1x128x128 (constant S_ .f32 0x322BCC77#32))))

/-! ### The transform tables, the projection and the gain as matrices -/

/-- The transform matrix, real and imaginary part. -/
@[expose] def fr : Fin 128 → Fin 128 → EReal := fun k h => res_main_v63 R (ix2 k h)
@[expose] def fi : Fin 128 → Fin 128 → EReal := fun k h => res_main_v67 R (ix2 k h)
/-- The projected image of one batch element and middle channel. -/
@[expose] def proj (b : Fin 8) (p : Fin 16) : Fin 128 → Fin 128 → EReal := fun h w => res_main_v69 R (ix4 b p h w)
/-- The gain of one middle channel. -/
@[expose] def gain (p : Fin 16) : Fin 128 → Fin 128 → EReal := fun h w => res_main_v94 R (ix3 p h w)

/-! ### The forward transform -/

theorem proj_69 (b : Fin 8) (p : Fin 16) (h w : Fin 128) : res_main_v69 R (ix4 b p h w)
    = (∑ a, @HMul.hMul EReal EReal EReal _ (R (Proc.devRef .tc main_arg1) (ix2 p a)) (R (Proc.devRef .tc main_arg0) (ix4 b a h w)) : EReal) := by
  pointwise [res_main_v69]
theorem up_71 (b : Fin 8) (p : Fin 16) (k w : Fin 128) : res_main_v71 R (ix4 b p k w) = (∑ h, fr R k h * proj R b p h w : EReal) := by
  pointwise [res_main_v71]
  exact swap_sum (proj R b p · w) (fr R k)
theorem up_73 (b : Fin 8) (p : Fin 16) (k w : Fin 128) : res_main_v73 R (ix4 b p k w) = (∑ h, fi R k h * proj R b p h w : EReal) := by
  pointwise [res_main_v73]
  exact swap_sum (proj R b p · w) (fi R k)
theorem re_76 (b : Fin 8) (p : Fin 16) (k l : Fin 128) : res_main_v76 R (ix4 b p k l) = (dftRe (fr R) (fi R) (proj R b p) k l : EReal) := by
  pointwise [res_main_v76]
  simp only [up_71, up_73]
  rfl
theorem im_79 (b : Fin 8) (p : Fin 16) (k l : Fin 128) : res_main_v79 R (ix4 b p k l) = (dftIm (fr R) (fi R) (proj R b p) k l : EReal) := by
  pointwise [res_main_v79]
  simp only [up_71, up_73]
  rfl

/-! ### The gain at the shifted spectrum, and the shift back -/

theorem call_4 (b : Fin 8) (p : Fin 16) (k l : Fin 128) : res_main_call4_v2 R (ix4 b p k l) = res_main_v76 R (ix4 b p (opp k) l) := by
  pointwise [res_main_call4_v2]
  exact halves (fun i => res_main_v76 R (ix4 b p i l)) k
theorem call_5 (b : Fin 8) (p : Fin 16) (k l : Fin 128) : res_main_call5_v2 R (ix4 b p k l) = res_main_v79 R (ix4 b p (opp k) l) := by
  pointwise [res_main_call5_v2]
  exact halves (fun i => res_main_v79 R (ix4 b p i l)) k
/-- The shifted spectrum, real and imaginary part. -/
theorem re_80 (b : Fin 8) (p : Fin 16) (k l : Fin 128) : res_main_v80 R (ix4 b p k l) = res_main_v76 R (ix4 b p (opp k) (opp l)) := by
  pointwise [res_main_v80]
  exact (halves (fun i => res_main_call4_v2 R (ix4 b p k i)) l).trans (call_4 R b p k (opp l))
theorem im_81 (b : Fin 8) (p : Fin 16) (k l : Fin 128) : res_main_v81 R (ix4 b p k l) = res_main_v79 R (ix4 b p (opp k) (opp l)) := by
  pointwise [res_main_v81]
  exact (halves (fun i => res_main_call5_v2 R (ix4 b p k i)) l).trans (call_5 R b p k (opp l))

theorem mag_85 (b : Fin 8) (p : Fin 16) (k l : Fin 128) : res_main_v85 R (ix4 b p k l)
    = Ideal.sqrt (@HAdd.hAdd EReal EReal EReal _ (@HMul.hMul EReal EReal EReal _ (res_main_v80 R (ix4 b p k l)) (res_main_v80 R (ix4 b p k l)))
        (@HMul.hMul EReal EReal EReal _ (res_main_v81 R (ix4 b p k l)) (res_main_v81 R (ix4 b p k l)))) := by
  pointwise [res_main_v85]
theorem phase_95 (b : Fin 8) (p : Fin 16) (k l : Fin 128) : res_main_v95 R (ix4 b p k l) = Ideal.atan2 (res_main_v81 R (ix4 b p k l)) (res_main_v80 R (ix4 b p k l)) := by
  pointwise [res_main_v95]

/-! ### The gain -/

theorem radius_le (h w : Fin 128) : (show BitVec 32 from res_main_v24 R (ix2 h w)).toNat ≤ 8 := by
  pointwise [res_main_v24]
  exact clamp_le _
/-- The radius bin of a place of the shifted spectrum. -/
@[expose] def bin (h w : Fin 128) : Fin 9 := ⟨(show BitVec 32 from res_main_v24 R (ix2 h w)).toNat, Nat.lt_succ_of_le (radius_le R h w)⟩
/-- The start words of the gather: a negative bin counts from the end. -/
@[expose] def starts : IVec S128x128x1 32 :=
  broadcastInDim S128x128x1 ![0, 1] bcast_S128x128_S128x128x1_0_1 (select (cmpi .slt (res_main_v24 R) (broadcastInDim S128x128 ![] bcast_S_S128x128 (constantI S_ 32 0#32)))
    (addi (res_main_v24 R) (broadcastInDim S128x128 ![] bcast_S_S128x128 (constantI S_ 32 9#32))) (res_main_v24 R))
theorem starts_bin (h w : Fin 128) : min (starts R (ix3 h w 0)).toInt.toNat 8 = (bin R h w).val := by
  have e : starts R (ix3 h w 0) = Scalar.select (IntOp.cmpi .slt (res_main_v24 R (ix2 h w)) 0#32) (IntOp.addi (res_main_v24 R (ix2 h w)) 9#32) (res_main_v24 R (ix2 h w)) := by
    pointwise [starts]
  rw [e]
  exact wrap_bin _ (radius_le R h w)
theorem gain_94 (p : Fin 16) (h w : Fin 128) : gain R p h w
    = (∑ a, @HMul.hMul EReal EReal EReal _ (R (Proc.devRef .tc main_arg3) (ix3 p a (bin R h w))) (weights R (ix3 a h w)) : EReal) := by
  show res_main_v94 R (ix3 p h w) = _
  have e : ∀ a : Fin 8, Host.gather gather_S16x8x9_S128x128x1_S16x8x128x128_01_2_n_n_2_2_1681 (R (Proc.devRef .tc main_arg3) : S16x8x9.Idx → EReal) (starts R) (ix4 p a h w)
      = R (Proc.devRef .tc main_arg3) (ix3 p a (bin R h w)) := fun a =>
    (gather_bins (R (Proc.devRef .tc main_arg3)) (starts R) p a h w).trans (congrArg (fun i => R (Proc.devRef .tc main_arg3) (ix3 p a i)) (Fin.ext (starts_bin R h w)))
  simp only [← e]
  pointwise [res_main_v94, weights]
  rfl

/-! ### The spectrum of a finite image is finite -/

theorem angle_real (k h : Fin 128) : IsReal (res_main_v60 R (ix2 k h)) := by
  pointwise [res_main_v60]
  exact IsReal.mul ⟨_, rfl⟩ ⟨_, rfl⟩
theorem fr_real (k h : Fin 128) : IsReal (fr R k h) := by
  show IsReal (res_main_v63 R (ix2 k h))
  pointwise [res_main_v63]
  exact (angle_real R k h).cos.mul ⟨_, rfl⟩
theorem fi_real (k h : Fin 128) : IsReal (fi R k h) := by
  show IsReal (res_main_v67 R (ix2 k h))
  pointwise [res_main_v67]
  exact (angle_real R k h).sin.neg.mul ⟨_, rfl⟩

variable (hx : ∀ y, IsReal (R (Proc.devRef .tc main_arg0) y)) (hw : ∀ y, IsReal (R (Proc.devRef .tc main_arg1) y))
include hx hw

theorem proj_real (b : Fin 8) (p : Fin 16) (h w : Fin 128) : IsReal (proj R b p h w) := by
  show IsReal (res_main_v69 R (ix4 b p h w))
  rw [proj_69]
  exact IsReal.sum _ fun a => (hw _).mul (hx _)
theorem re_real (b : Fin 8) (p : Fin 16) (k l : Fin 128) : IsReal (res_main_v76 R (ix4 b p k l)) := by
  rw [re_76]
  exact (IsReal.sum _ fun w => (IsReal.sum _ fun h => (fr_real R k h).mul (proj_real R hx hw b p h w)).mul (fr_real R l w)).sub
    (IsReal.sum _ fun w => (IsReal.sum _ fun h => (fi_real R k h).mul (proj_real R hx hw b p h w)).mul (fi_real R l w))
theorem im_real (b : Fin 8) (p : Fin 16) (k l : Fin 128) : IsReal (res_main_v79 R (ix4 b p k l)) := by
  rw [im_79]
  exact (IsReal.sum _ fun w => (IsReal.sum _ fun h => (fr_real R k h).mul (proj_real R hx hw b p h w)).mul (fi_real R l w)).add
    (IsReal.sum _ fun w => (IsReal.sum _ fun h => (fi_real R k h).mul (proj_real R hx hw b p h w)).mul (fr_real R l w))

/-! ### The polar form -/

theorem re_100 (b : Fin 8) (p : Fin 16) (k l : Fin 128) : res_main_v100 R (ix4 b p k l) = @HMul.hMul EReal EReal EReal _ (res_main_v76 R (ix4 b p (opp k) (opp l))) (gain R p k l) := by
  pointwise [res_main_v100]
  rw [mag_85, phase_95, re_80, im_81]
  exact polar_cos (re_real R hx hw b p (opp k) (opp l)) (im_real R hx hw b p (opp k) (opp l)) _
theorem im_106 (b : Fin 8) (p : Fin 16) (k l : Fin 128) : res_main_v106 R (ix4 b p k l) = @HMul.hMul EReal EReal EReal _ (res_main_v79 R (ix4 b p (opp k) (opp l))) (gain R p k l) := by
  pointwise [res_main_v106]
  rw [mag_85, phase_95, re_80, im_81]
  exact polar_sin (re_real R hx hw b p (opp k) (opp l)) (im_real R hx hw b p (opp k) (opp l)) _

omit hx hw in
theorem call_6 (b : Fin 8) (p : Fin 16) (k l : Fin 128) : res_main_call6_v2 R (ix4 b p k l) = res_main_v100 R (ix4 b p (opp k) l) := by
  pointwise [res_main_call6_v2]
  exact halves (fun i => res_main_v100 R (ix4 b p i l)) k
omit hx hw in
theorem call_7 (b : Fin 8) (p : Fin 16) (k l : Fin 128) : res_main_call7_v2 R (ix4 b p k l) = res_main_v106 R (ix4 b p (opp k) l) := by
  pointwise [res_main_call7_v2]
  exact halves (fun i => res_main_v106 R (ix4 b p i l)) k
theorem re_101 (b : Fin 8) (p : Fin 16) (k l : Fin 128) : res_main_v101 R (ix4 b p k l) = gain R p (opp k) (opp l) * dftRe (fr R) (fi R) (proj R b p) k l := by
  pointwise [res_main_v101]
  refine (halves (fun i => res_main_call6_v2 R (ix4 b p k i)) l).trans ?_
  simp only [call_6, re_100 R hx hw, opp_opp, re_76]
  exact mul_comm _ _
theorem im_107 (b : Fin 8) (p : Fin 16) (k l : Fin 128) : res_main_v107 R (ix4 b p k l) = gain R p (opp k) (opp l) * dftIm (fr R) (fi R) (proj R b p) k l := by
  pointwise [res_main_v107]
  refine (halves (fun i => res_main_call7_v2 R (ix4 b p k i)) l).trans ?_
  simp only [call_7, im_106 R hx hw, opp_opp, im_79]
  exact mul_comm _ _

/-! ### The result -/

/-- The columns transformed back, real and imaginary part, -/
@[expose] def colRe : Vec Ideal S8x16x128x128 .f32 :=
  addf (transpose S8x16x128x128 [0, 1, 3, 2] (Host.dotGeneral (φ₁ := .f32) (φ₂ := .f32) dot_S8x16x128x128_S128x128_S8x16x128x128_2_0_013_1_n_n none (res_main_v101 R) (res_main_v63 R)) transposes_S8x16x128x128_S8x16x128x128_0_1_3_2)
    (transpose S8x16x128x128 [0, 1, 3, 2] (Host.dotGeneral (φ₁ := .f32) (φ₂ := .f32) dot_S8x16x128x128_S128x128_S8x16x128x128_2_0_013_1_n_n none (res_main_v107 R) (res_main_v67 R)) transposes_S8x16x128x128_S8x16x128x128_0_1_3_2)
@[expose] def colIm : Vec Ideal S8x16x128x128 .f32 :=
  subf (transpose S8x16x128x128 [0, 1, 3, 2] (Host.dotGeneral (φ₁ := .f32) (φ₂ := .f32) dot_S8x16x128x128_S128x128_S8x16x128x128_2_0_013_1_n_n none (res_main_v107 R) (res_main_v63 R)) transposes_S8x16x128x128_S8x16x128x128_0_1_3_2)
    (transpose S8x16x128x128 [0, 1, 3, 2] (Host.dotGeneral (φ₁ := .f32) (φ₂ := .f32) dot_S8x16x128x128_S128x128_S8x16x128x128_2_0_013_1_n_n none (res_main_v101 R) (res_main_v67 R)) transposes_S8x16x128x128_S8x16x128x128_0_1_3_2)
/-- the enhanced middle channels, -/
@[expose] def middle : Vec Ideal S8x16x128x128 .f32 :=
  addf (Host.dotGeneral (φ₁ := .f32) (φ₂ := .f32) dot_S8x16x128x128_S128x128_S8x16x128x128_3_0_012_1_n_n none (colRe R) (res_main_v63 R))
    (Host.dotGeneral (φ₁ := .f32) (φ₂ := .f32) dot_S8x16x128x128_S128x128_S8x16x128x128_3_0_012_1_n_n none (colIm R) (res_main_v67 R))
/-- and the result, as the reference's operations compose it. -/
@[expose] def composed : FVec Ideal S8x256x128x128 .f32 :=
  addf (F := Ideal) (φ := .f32) (R (Proc.devRef .tc main_arg0)) (transpose S8x256x128x128 [1, 0, 2, 3] (Host.dotGeneral (φ₁ := .f32) (φ₂ := .f32) dot_S256x16_S8x16x128x128_S256x8x128x128_1_1_0_023_n_n none
    (R (Proc.devRef .tc main_arg2)) (middle R)) transposes_S256x8x128x128_S8x256x128x128_1_0_2_3)

omit hx hw in
theorem colRe_apply (b : Fin 8) (p : Fin 16) (h l : Fin 128) : colRe R (ix4 b p h l)
    = ((∑ k, fr R k h * res_main_v101 R (ix4 b p k l)) + ∑ k, fi R k h * res_main_v107 R (ix4 b p k l) : EReal) := by
  pointwise [colRe]
  exact congrArg₂ (· + ·) (swap_sum (fun k => res_main_v101 R (ix4 b p k l)) (fun k => fr R k h)) (swap_sum (fun k => res_main_v107 R (ix4 b p k l)) (fun k => fi R k h))
omit hx hw in
theorem colIm_apply (b : Fin 8) (p : Fin 16) (h l : Fin 128) : colIm R (ix4 b p h l)
    = ((∑ k, fr R k h * res_main_v107 R (ix4 b p k l)) - ∑ k, fi R k h * res_main_v101 R (ix4 b p k l) : EReal) := by
  pointwise [colIm]
  exact congrArg₂ (· - ·) (swap_sum (fun k => res_main_v107 R (ix4 b p k l)) (fun k => fr R k h)) (swap_sum (fun k => res_main_v101 R (ix4 b p k l)) (fun k => fi R k h))
theorem middle_apply (b : Fin 8) (p : Fin 16) (h w : Fin 128) : middle R (ix4 b p h w) = (enhanceRef (fr R) (fi R) (gain R p) (proj R b p) h w : EReal) := by
  pointwise [middle]
  simp only [colRe_apply, colIm_apply, re_101 R hx hw, im_107 R hx hw]
  rfl
theorem composed_apply (b : Fin 8) (o : Fin 256) (h w : Fin 128) : composed R (ix4 b o h w)
    = @HAdd.hAdd EReal EReal EReal _ (R (Proc.devRef .tc main_arg0) (ix4 b o h w)) (∑ p : Fin 16, @HMul.hMul EReal EReal EReal _ (R (Proc.devRef .tc main_arg2) (ix2 o p))
        (enhanceRef (fr R) (fi R) (gain R p) (proj R b p) h w)) := by
  pointwise [composed]
  simp only [middle_apply R hx hw]

end Cert.PolarIdeal.Hand

end
-- ==== Proof.Ideal.PolarValue.lean ====
/-
  For a finite image and first projection the two references have the same result: the one that multiplies real and imaginary part by the gain, and the one in polar form.
-/
module

public import proofs.«01_k».proof.Proof.Ideal.Polar
public import proofs.«01_k».proof.Proof.Gen.Pre_finite
public import Idealize.ShloMosaic.Lib.Tactic

public section

set_option maxRecDepth 16384

noncomputable section

namespace Cert.PolarIdeal.Hand

open Cert.PolarIdeal.Gen
open Idealize.ShloMosaic Idealize.ShloMosaic.TcCoe

variable (R : Valuation ReferenceIdeal.τ ReferenceIdeal.sig (Elt Ideal)) (Q : Valuation τ sig (Elt Ideal))

/-! ### The tables of the two references -/

theorem same_cos : fr Q = ReferenceIdeal.Hand.fr R := by
  have e : (Value.res_main_v63 Q : Vec Ideal S128x128 .f32) = ReferenceIdeal.Value.res_main_v63 R := by
    unfold Value.res_main_v63 Value.res_main_v60 Value.res_main_call3_v2 Value.res_main_call3_v4 Value.res_main_call3_v0 Value.res_main_v51
    unfold ReferenceIdeal.Value.res_main_v63 ReferenceIdeal.Value.res_main_v60 ReferenceIdeal.Value.res_main_call3_v2 ReferenceIdeal.Value.res_main_call3_v4 ReferenceIdeal.Value.res_main_call3_v0 ReferenceIdeal.Value.res_main_v51
    sl_kernel_rfl
  exact funext fun k => funext fun h => congrFun e (ix2 k h)
theorem same_sin : fi Q = ReferenceIdeal.Hand.fi R := by
  have e : (Value.res_main_v67 Q : Vec Ideal S128x128 .f32) = ReferenceIdeal.Value.res_main_v67 R := by
    unfold Value.res_main_v67 Value.res_main_v60 Value.res_main_call3_v2 Value.res_main_call3_v4 Value.res_main_call3_v0 Value.res_main_v51
    unfold ReferenceIdeal.Value.res_main_v67 ReferenceIdeal.Value.res_main_v60 ReferenceIdeal.Value.res_main_call3_v2 ReferenceIdeal.Value.res_main_call3_v4 ReferenceIdeal.Value.res_main_call3_v0 ReferenceIdeal.Value.res_main_v51
    sl_kernel_rfl
  exact funext fun k => funext fun h => congrFun e (ix2 k h)
theorem same_bins : (Value.res_main_v24 Q : IVec S128x128 32) = ReferenceIdeal.Value.res_main_v24 R := by
  unfold Value.res_main_v24 ReferenceIdeal.Value.res_main_v24
  sl_kernel_rfl
theorem same_bin (h w : Fin 128) : bin Q h w = ReferenceIdeal.Hand.bin R h w :=
  Fin.ext (congrArg (fun v : IVec S128x128 32 => (v (ix2 h w)).toNat) (same_bins R Q))
theorem same_weights : (weights Q : Vec Ideal S8x128x128 .f32) = ReferenceIdeal.Hand.weights R := by sl_kernel_rfl

/-! ### The results -/

/-- The second reference's composed result is the first one's on the same arguments. -/
theorem same_result (hx : ∀ y, IsReal (Q (Proc.devRef .tc main_arg0) y)) (hw : ∀ y, IsReal (Q (Proc.devRef .tc main_arg1) y))
    (h0 : ∀ y, R (Proc.devRef .tc ReferenceIdeal.main_arg0) y = Q (Proc.devRef .tc main_arg0) y)
    (h1 : ∀ y, R (Proc.devRef .tc ReferenceIdeal.main_arg1) y = Q (Proc.devRef .tc main_arg1) y)
    (h2 : ∀ y, R (Proc.devRef .tc ReferenceIdeal.main_arg2) y = Q (Proc.devRef .tc main_arg2) y)
    (h3 : ∀ y, R (Proc.devRef .tc ReferenceIdeal.main_arg3) y = Q (Proc.devRef .tc main_arg3) y) :
    ReferenceIdeal.Hand.composed R = composed Q := by
  funext y
  obtain ⟨b, o, h, w, rfl⟩ : ∃ (b : Fin 8) (o : Fin 256) (h w : Fin 128), y = ix4 b o h w := ⟨y 0, y 1, y 2, y 3, eq_ix4 y⟩
  have ep : ReferenceIdeal.Hand.proj R b = proj Q b := funext fun p => funext fun i => funext fun j => by
    show ReferenceIdeal.Value.res_main_v69 R (ix4 b p i j) = Value.res_main_v69 Q (ix4 b p i j)
    rw [ReferenceIdeal.Hand.proj_69, proj_69]
    exact Finset.sum_congr (M := EReal) rfl fun a _ => congrArg₂ (fun a b : EReal => a * b) (h1 _) (h0 _)
  have eg : ReferenceIdeal.Hand.gain R = gain Q := funext fun p => funext fun i => funext fun j => by
    rw [ReferenceIdeal.Hand.gain_90, gain_94]
    refine Finset.sum_congr (M := EReal) rfl fun a _ => congrArg₂ (fun a b : EReal => a * b) ?_ ?_
    · rw [same_bin R Q]
      exact h3 _
    · exact (congrFun (same_weights R Q) (ix3 a i j)).symm
  refine (ReferenceIdeal.Hand.composed_apply R b o h w).trans (Eq.trans ?_ (composed_apply Q hx hw b o h w).symm)
  rw [ep, eg, same_cos R Q, same_sin R Q]
  exact congrArg₂ (fun a b : EReal => a + b) (h0 _) (Finset.sum_congr (M := EReal) rfl fun p _ => congrArg₂ (fun a b : EReal => a * b) (h2 _) rfl)

/-! ### The precondition -/

/-- The constant the precondition compares with is the value above all reals. -/
theorem pos_inf : Ideal.ofBits .f32 0x7F800000#32 = (⊤ : EReal) := by
  simp [Ideal.ofBits, Ideal.ieee]

/-- A value whose absolute value tests below it has an absolute value below it. -/
theorem lt_top_of_olt {a : EReal} (e : BitVec.ofBool (decide (max a (-a) < Ideal.ofBits .f32 0x7F800000#32)) = 1#1) : max a (-a) < ⊤ := by
  rw [pos_inf] at e
  by_contra h
  rw [decide_eq_false h] at e
  exact absurd e (by decide)

/-- Where the precondition holds, the image and the first projection are real. -/
theorem real_of_finite (x : FVec Ideal Pre_finite.S8x256x128x128 .f32) (w : FVec Ideal Pre_finite.S16x256 .f32) (v : FVec Ideal Pre_finite.S256x16 .f32) (g : FVec Ideal Pre_finite.S16x8x9 .f32)
    (hx : (Pre_finite.fn (F := Ideal) x w v g).1 = fun _ => 1#1) (hw : (Pre_finite.fn (F := Ideal) x w v g).2 = fun _ => 1#1) :
    (∀ y, IsReal (x y)) ∧ ∀ y, IsReal (w y) := by
  refine ⟨fun y => real_of_abs ?_, fun y => real_of_abs ?_⟩
  · have e := congrFun hx y
    simp only [Pre_finite.fn] at e
    pointwise at e
    exact lt_top_of_olt e
  · have e := congrFun hw y
    simp only [Pre_finite.fn] at e
    pointwise at e
    exact lt_top_of_olt e

/-! ### Arguments of the first reference from those of the second -/

/-- Contents of the first reference's buffers with these arguments. -/
theorem exists_contents (Q : Valuation τ sig (Elt Ideal)) : ∃ R : Valuation ReferenceIdeal.τ ReferenceIdeal.sig (Elt Ideal),
    (∀ y, R (Proc.devRef .tc ReferenceIdeal.main_arg0) y = Q (Proc.devRef .tc main_arg0) y)
    ∧ (∀ y, R (Proc.devRef .tc ReferenceIdeal.main_arg1) y = Q (Proc.devRef .tc main_arg1) y)
    ∧ (∀ y, R (Proc.devRef .tc ReferenceIdeal.main_arg2) y = Q (Proc.devRef .tc main_arg2) y)
    ∧ (∀ y, R (Proc.devRef .tc ReferenceIdeal.main_arg3) y = Q (Proc.devRef .tc main_arg3) y) := by
  let base : Valuation ReferenceIdeal.τ ReferenceIdeal.sig (Elt Ideal) := fun _ _ => default
  let R : Valuation ReferenceIdeal.τ ReferenceIdeal.sig (Elt Ideal) :=
    Function.update (Function.update (Function.update (Function.update base
      (Proc.devRef .tc ReferenceIdeal.main_arg0) (Q (Proc.devRef .tc main_arg0)))
      (Proc.devRef .tc ReferenceIdeal.main_arg1) (Q (Proc.devRef .tc main_arg1)))
      (Proc.devRef .tc ReferenceIdeal.main_arg2) (Q (Proc.devRef .tc main_arg2)))
      (Proc.devRef .tc ReferenceIdeal.main_arg3) (Q (Proc.devRef .tc main_arg3))
  refine ⟨R, fun y => congrFun ?_ y, fun y => congrFun ?_ y, fun y => congrFun ?_ y, fun y => congrFun ?_ y⟩
  · exact (Function.update_of_ne (by decide) _ _).trans ((Function.update_of_ne (by decide) _ _).trans ((Function.update_of_ne (by decide) _ _).trans (Function.update_self _ _ _)))
  · exact (Function.update_of_ne (by decide) _ _).trans ((Function.update_of_ne (by decide) _ _).trans (Function.update_self _ _ _))
  · exact (Function.update_of_ne (by decide) _ _).trans (Function.update_self _ _ _)
  · exact Function.update_self _ _ _

end Cert.PolarIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.PolarIdeal
public import proofs.«01_k».proof.Proof.Gen.PolarIdeal.Run
public import proofs.«01_k».proof.Proof.Gen.Pre_finite
public import proofs.«01_k».proof.Proof.Bits.Run
public import proofs.«01_k».proof.Proof.Ideal.Run
public import proofs.«01_k».proof.Proof.Ideal.Value
public import proofs.«01_k».proof.Proof.Ideal.PolarValue
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.PolarIdeal.Facts := Cert.PolarIdeal.Gen.facts
instance : Cert.Pre_finite.Facts := Cert.Pre_finite.Gen.facts

/-- The kernel's frame. -/
theorem frame_k : Cert.quiescent_Kernel := fun m g _ =>
  (θ_run Cert.Kernel.defs _ _).mono (fun _ h => ⟨fun c => (h.1 c).2, h.2⟩) (Cert.Kernel.Hand.run_main (F := Bits) m g)

/-- The frame of the kernel read over the extended reals. -/
theorem frame_i : Cert.quiescent_KernelIdeal := fun m g _ =>
  (θ_run Cert.KernelIdeal.defs _ _).mono (fun _ h => ⟨fun c => (h.1 c).2, h.2⟩) (Cert.KernelIdeal.Hand.run_main (F := Ideal) m g)

/-- The same frame where the image and the first projection are finite. -/
theorem frame_i_finite : Cert.quiescent_KernelIdeal_pre_finite := fun m g _ => frame_i m g trivial

/-- The reference's frame; it declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The polar reference's frame; it declares no semaphore. -/
theorem frame_p : Cert.quiescent_PolarIdeal := fun m g _ =>
  (θ_run Cert.PolarIdeal.defs _ _).mono (fun r h => ⟨fun c => (h c).2, sem_eq_zero_of_no_sems (by decide) r.2⟩)
    (Cert.PolarIdeal.Value.run (F := Ideal) m g)

/-- The same frame where the image and the first projection are finite. -/
theorem frame_p_finite : Cert.quiescent_PolarIdeal_pre_finite := fun m g _ => frame_p m g trivial

/-- Kernel and reference leave the same result: the reference's operations composed over the arguments. -/
theorem algebraic : Cert.algebraic_KernelIdeal_ReferenceIdeal := fun m g m' g' _ ha =>
  ⟨fun c => Cert.ReferenceIdeal.Hand.composed (StableHlo.launchContents m' c),
    (θ_run Cert.KernelIdeal.defs _ _).mono (fun _ h c => ⟨(h.1 c).1.trans (Cert.KernelIdeal.Hand.kernel_value m c (StableHlo.launchContents m' c)
      (congrFun (ha c).1) (congrFun (ha c).2.1) (congrFun (ha c).2.2.1) (congrFun (ha c).2.2.2)), (h.1 c).2⟩) (Cert.KernelIdeal.Hand.run_main (F := Ideal) m g),
    (θ_run Cert.ReferenceIdeal.defs _ _).mono (fun _ h c => ⟨(h c).1, (h c).2⟩) (Cert.ReferenceIdeal.Value.run (F := Ideal) m' g')⟩

/-- Where the image and the first projection are finite, kernel and polar reference leave the same result. -/
theorem algebraic_polar : Cert.algebraic_KernelIdeal_PolarIdeal_pre_finite := fun m g m' g' hp ha =>
  ⟨fun c => Cert.PolarIdeal.Hand.composed (StableHlo.launchContents m' c),
    (θ_run Cert.KernelIdeal.defs _ _).mono (fun _ h c => ⟨(h.1 c).1.trans (by
      obtain ⟨R, h0, h1, h2, h3⟩ := Cert.PolarIdeal.Hand.exists_contents (StableHlo.launchContents m' c)
      obtain ⟨hx, hw⟩ := Cert.PolarIdeal.Hand.real_of_finite _ _ _ _ (hp c).1 (hp c).2
      exact (Cert.KernelIdeal.Hand.kernel_value m c R (fun y => (h0 y).trans (congrFun (ha c).1 y)) (fun y => (h1 y).trans (congrFun (ha c).2.1 y))
        (fun y => (h2 y).trans (congrFun (ha c).2.2.1 y)) (fun y => (h3 y).trans (congrFun (ha c).2.2.2 y))).trans
        (Cert.PolarIdeal.Hand.same_result R (StableHlo.launchContents m' c) (fun y => (congrArg Cert.PolarIdeal.Hand.IsReal (congrFun (ha c).1 y)).mpr (hx y))
          (fun y => (congrArg Cert.PolarIdeal.Hand.IsReal (congrFun (ha c).2.1 y)).mpr (hw y)) h0 h1 h2 h3)), (h.1 c).2⟩) (Cert.KernelIdeal.Hand.run_main (F := Ideal) m g),
    (θ_run Cert.PolarIdeal.defs _ _).mono (fun _ h c => ⟨(h c).1, (h c).2⟩) (Cert.PolarIdeal.Value.run (F := Ideal) m' g')⟩

theorem claim : Cert.Claim := ⟨Cert.Kernel.Gen.facts, Cert.KernelIdeal.Gen.facts, Cert.ReferenceIdeal.Gen.facts, Cert.PolarIdeal.Gen.facts, Cert.Pre_finite.Gen.facts,
  frame_k, frame_i, frame_i_finite, frame_r, frame_p, frame_p_finite, trivial, algebraic, algebraic_polar⟩

end Cert.Proof

end
